-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v361) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "inv_sqrt_d" .f32 0x3DB504F3#32 (((Real.sqrt 128)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v92) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_on_routed [hKernel3Ideal : Cert.Kernel3Ideal.Facts] [hReference3Ideal : Cert.Reference3Ideal.Facts] [hOn_routed : Cert.On_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨3, ![17, 6656, 1024]⟩ : Shape).Idx, (Cert.On_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Kernel3Ideal.nD Cert.Kernel3Ideal.τ).loc Cert.Kernel3Ideal.main_v0) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨3, ![17, 6656, 1024]⟩ : Shape).Idx, (Cert.On_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Reference3Ideal.nD Cert.Reference3Ideal.τ).loc Cert.Reference3Ideal.main_v9) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v59) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hOn_routed : Cert.On_routed.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_routed (hKernel3Ideal := hKernel3Ideal) (hReference3Ideal := hReference3Ideal) (hOn_routed := hOn_routed)
    ∧ preserves_Kernel4_Kernel4Ideal
    ∧ algebraic_Kernel4Ideal_Reference4Ideal (hKernel4Ideal := hKernel4Ideal) (hReference4Ideal := hReference4Ideal)
-- ==== On_routed.lean ====
abbrev S16 : Shape := ⟨1, ![16]⟩
abbrev S16x6656x1024 : Shape := ⟨3, ![16, 6656, 1024]⟩
abbrev S16x1024x2048 : Shape := ⟨3, ![16, 1024, 2048]⟩
abbrev S16x2048x1024 : Shape := ⟨3, ![16, 2048, 1024]⟩
abbrev S_ : Shape := ⟨0, ![]⟩
abbrev S1 : Shape := ⟨1, ![1]⟩
abbrev S17 : Shape := ⟨1, ![17]⟩
abbrev S17x6656x1024 : Shape := ⟨3, ![17, 6656, 1024]⟩
abbrev S17x1x1 : Shape := ⟨3, ![17, 1, 1]⟩

class Facts : Prop where
  bcast_S_S1 : S_.BroadcastsInDim S1 (![] : Fin 0 → Fin S1.rank)
  concatenates_S16_S1_S17_d0 : Shape.Concatenates [S16, S1] S17 0
  bcast_S17_S17x1x1_0 : S17.BroadcastsInDim S17x1x1 (![0] : Fin 1 → Fin S17x1x1.rank)
  bcast_S17x1x1_S17x6656x1024_0_1_2 : S17x1x1.BroadcastsInDim S17x6656x1024 (![0, 1, 2] : Fin 3 → Fin S17x6656x1024.rank)

variable [Facts]

def fn {F : FTy → Type} [FloatOps F] (main_arg0 : IVec S16 32) (main_arg1 : FVec F S16x6656x1024 .bf16) (main_arg2 : FVec F S16x1024x2048 .f32) (main_arg3 : FVec F S16x1024x2048 .f32) (main_arg4 : FVec F S16x2048x1024 .f32) : IVec S17x6656x1024 1 :=
  let main_c : IVec S_ 32 := constantI S_ 32 0#32
  let main_v0 : IVec S1 32 := broadcastInDim S1 ![] bcast_S_S1 main_c
  let main_v1 : IVec S17 32 := (fun a b => concatenate S17 0 [⟨S16, a⟩, ⟨S1, b⟩] concatenates_S16_S1_S17_d0) main_arg0 main_v0
  let main_v2 : IVec S17x6656x1024 32 := iotaInDim S17x6656x1024 32 1
  let main_v3 : IVec S17x1x1 32 := broadcastInDim S17x1x1 ![0] bcast_S17_S17x1x1_0 main_v1
  let main_v4 : IVec S17x6656x1024 32 := broadcastInDim S17x6656x1024 ![0, 1, 2] bcast_S17x1x1_S17x6656x1024_0_1_2 main_v3
  let main_v5 : IVec S17x6656x1024 1 := cmpi .slt main_v2 main_v4
  main_v5
-- ==== Kernel.lean ====
abbrev S8x2048x6656 : Shape := ⟨3, ![8, 2048, 6656]⟩
abbrev S512 : Shape := ⟨1, ![512]⟩
abbrev S4 : Shape := ⟨1, ![4]⟩
abbrev S_ : Shape := ⟨0, ![]⟩
abbrev S4x1x1 : Shape := ⟨3, ![4, 1, 1]⟩
abbrev S4x1x128 : Shape := ⟨3, ![4, 1, 128]⟩
abbrev S8x2048x512 : Shape := ⟨3, ![8, 2048, 512]⟩
abbrev S1x2048x128 : Shape := ⟨3, ![1, 2048, 128]⟩
abbrev S1x1x128 : Shape := ⟨3, ![1, 1, 128]⟩
abbrev S2048x128 : Shape := ⟨2, ![2048, 128]⟩
abbrev S1x128 : Shape := ⟨2, ![1, 128]⟩
abbrev S128x128 : Shape := ⟨2, ![128, 128]⟩
abbrev S1x128x128 : Shape := ⟨3, ![1, 128, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩

abbrev nBuf : Space → Nat
  | .hbm => 17
  | .vmem => 16
  | .smem => 0
  | _ => 0

abbrev bufTy : (tb : Table) → Fin (tcTables nBuf tb) → BufTy
  | .hbm, ⟨0, _⟩ => ⟨S8x2048x6656, .bf16⟩
  | .hbm, ⟨1, _⟩ => ⟨S512, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4x1x1, .f32⟩
  | .hbm, ⟨14, _⟩ => ⟨S4x1x128, .f32⟩
  | .hbm, ⟨15, _⟩ => ⟨S4x1x128, .f32⟩
  | .hbm, ⟨16, _⟩ => ⟨S8x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x2048x128, .bf16⟩
  | .local _ .vmem, ⟨13, _⟩ => ⟨S1x2048x128, .bf16⟩
  | .local _ .vmem, ⟨14, _⟩ => ⟨S2048x128, .f32⟩
  | .local _ .vmem, ⟨15, _⟩ => ⟨S2048x128, .f32⟩
  | _, _ => ⟨S8x2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c128_i32 : BitVec 32 := 128#32
  let v38 : BitVec 32 := Scalar.muli c0_i32 c128_i32
  v38
def k0_mult2 : BitVec 32 :=
  let c15_i32 : BitVec 32 := 15#32
  let c0_i32 : BitVec 32 := 0#32
  let v40 : BitVec 32 := Scalar.subi c15_i32 c0_i32
  let c128_i32_6 : BitVec 32 := 128#32
  let v41 : BitVec 32 := Scalar.muli v40 c128_i32_6
  v41
def k0_off1 (c0_i32 : BitVec 32) : Fin 3 → Nat :=
  let c0_7 : Index := 0#32
  let c128_i32 : BitVec 32 := 128#32
  let v38 : BitVec 32 := Scalar.muli c0_i32 c128_i32
  let v39 : BitVec 32 := v38
  let v43 : Index := Scalar.indexCast v39
  let c0_8 : Index := 0#32
  ![0, v43.toNat, 0]
def k0_off2 (c0_i32 : BitVec 32) : Fin 3 → Nat :=
  let c0_16 : Index := 0#32
  let c15_i32 : BitVec 32 := 15#32
  let v40 : BitVec 32 := Scalar.subi c15_i32 c0_i32
  let c128_i32_6 : BitVec 32 := 128#32
  let v41 : BitVec 32 := Scalar.muli v40 c128_i32_6
  let v42 : BitVec 32 := v41
  let v65 : Index := Scalar.indexCast v42
  let c0_17 : Index := 0#32
  ![0, v65.toNat, 0]
def k0_off3 (c0_i32 : BitVec 32) : Fin 2 → Nat :=
  let c128_i32 : BitVec 32 := 128#32
  let v38 : BitVec 32 := Scalar.muli c0_i32 c128_i32
  let v39 : BitVec 32 := v38
  let v82 : Index := Scalar.indexCast v39
  let c0_24 : Index := 0#32
  ![v82.toNat, 0]
def k0_off4 (c0_i32 : BitVec 32) : Fin 2 → Nat :=
  let c15_i32 : BitVec 32 := 15#32
  let v40 : BitVec 32 := Scalar.subi c15_i32 c0_i32
  let c128_i32_6 : BitVec 32 := 128#32
  let v41 : BitVec 32 := Scalar.muli v40 c128_i32_6
  let v42 : BitVec 32 := v41
  let v86 : Index := Scalar.indexCast v42
  let c0_25 : Index := 0#32
  ![v86.toNat, 0]
def k0_mult3 : BitVec 32 :=
  let c1_i32 : BitVec 32 := 1#32
  let c128_i32_26 : BitVec 32 := 128#32
  let v90 : BitVec 32 := Scalar.muli c1_i32 c128_i32_26
  v90
def k0_mult4 : BitVec 32 :=
  let c15_i32_27 : BitVec 32 := 15#32
  let c1_i32 : BitVec 32 := 1#32
  let v92 : BitVec 32 := Scalar.subi c15_i32_27 c1_i32
  let c128_i32_28 : BitVec 32 := 128#32
  let v93 : BitVec 32 := Scalar.muli v92 c128_i32_28
  v93
def k0_mult5 : BitVec 32 :=
  let c2_i32 : BitVec 32 := 2#32
  let c128_i32_48 : BitVec 32 := 128#32
  let v142 : BitVec 32 := Scalar.muli c2_i32 c128_i32_48
  v142
def k0_mult6 : BitVec 32 :=
  let c15_i32_49 : BitVec 32 := 15#32
  let c2_i32 : BitVec 32 := 2#32
  let v144 : BitVec 32 := Scalar.subi c15_i32_49 c2_i32
  let c128_i32_50 : BitVec 32 := 128#32
  let v145 : BitVec 32 := Scalar.muli v144 c128_i32_50
  v145
def k0_mult7 : BitVec 32 :=
  let c3_i32 : BitVec 32 := 3#32
  let c128_i32_70 : BitVec 32 := 128#32
  let v194 : BitVec 32 := Scalar.muli c3_i32 c128_i32_70
  v194
def k0_mult8 : BitVec 32 :=
  let c15_i32_71 : BitVec 32 := 15#32
  let c3_i32 : BitVec 32 := 3#32
  let v196 : BitVec 32 := Scalar.subi c15_i32_71 c3_i32
  let c128_i32_72 : BitVec 32 := 128#32
  let v197 : BitVec 32 := Scalar.muli v196 c128_i32_72
  v197
def k0_mult9 : BitVec 32 :=
  let c4_i32 : BitVec 32 := 4#32
  let c128_i32_92 : BitVec 32 := 128#32
  let v246 : BitVec 32 := Scalar.muli c4_i32 c128_i32_92
  v246
def k0_mult10 : BitVec 32 :=
  let c15_i32_93 : BitVec 32 := 15#32
  let c4_i32 : BitVec 32 := 4#32
  let v248 : BitVec 32 := Scalar.subi c15_i32_93 c4_i32
  let c128_i32_94 : BitVec 32 := 128#32
  let v249 : BitVec 32 := Scalar.muli v248 c128_i32_94
  v249
def k0_mult11 : BitVec 32 :=
  let c5_i32 : BitVec 32 := 5#32
  let c128_i32_114 : BitVec 32 := 128#32
  let v298 : BitVec 32 := Scalar.muli c5_i32 c128_i32_114
  v298
def k0_mult12 : BitVec 32 :=
  let c15_i32_115 : BitVec 32 := 15#32
  let c5_i32 : BitVec 32 := 5#32
  let v300 : BitVec 32 := Scalar.subi c15_i32_115 c5_i32
  let c128_i32_116 : BitVec 32 := 128#32
  let v301 : BitVec 32 := Scalar.muli v300 c128_i32_116
  v301
def k0_mult13 : BitVec 32 :=
  let c6_i32 : BitVec 32 := 6#32
  let c128_i32_136 : BitVec 32 := 128#32
  let v350 : BitVec 32 := Scalar.muli c6_i32 c128_i32_136
  v350
def k0_mult14 : BitVec 32 :=
  let c15_i32_137 : BitVec 32 := 15#32
  let c6_i32 : BitVec 32 := 6#32
  let v352 : BitVec 32 := Scalar.subi c15_i32_137 c6_i32
  let c128_i32_138 : BitVec 32 := 128#32
  let v353 : BitVec 32 := Scalar.muli v352 c128_i32_138
  v353
def k0_mult15 : BitVec 32 :=
  let c7_i32 : BitVec 32 := 7#32
  let c128_i32_158 : BitVec 32 := 128#32
  let v402 : BitVec 32 := Scalar.muli c7_i32 c128_i32_158
  v402
def k0_mult16 : BitVec 32 :=
  let c15_i32_159 : BitVec 32 := 15#32
  let c7_i32 : BitVec 32 := 7#32
  let v404 : BitVec 32 := Scalar.subi c15_i32_159 c7_i32
  let c128_i32_160 : BitVec 32 := 128#32
  let v405 : BitVec 32 := Scalar.muli v404 c128_i32_160
  v405
def k0_mult17 : BitVec 32 :=
  let c8_i32_180 : BitVec 32 := 8#32
  let c128_i32_181 : BitVec 32 := 128#32
  let v454 : BitVec 32 := Scalar.muli c8_i32_180 c128_i32_181
  v454
def k0_mult18 : BitVec 32 :=
  let c15_i32_182 : BitVec 32 := 15#32
  let c8_i32_180 : BitVec 32 := 8#32
  let v456 : BitVec 32 := Scalar.subi c15_i32_182 c8_i32_180
  let c128_i32_183 : BitVec 32 := 128#32
  let v457 : BitVec 32 := Scalar.muli v456 c128_i32_183
  v457
def k0_mult19 : BitVec 32 :=
  let c9_i32 : BitVec 32 := 9#32
  let c128_i32_233 : BitVec 32 := 128#32
  let v580 : BitVec 32 := Scalar.muli c9_i32 c128_i32_233
  v580
def k0_mult20 : BitVec 32 :=
  let c15_i32_234 : BitVec 32 := 15#32
  let c9_i32 : BitVec 32 := 9#32
  let v582 : BitVec 32 := Scalar.subi c15_i32_234 c9_i32
  let c128_i32_235 : BitVec 32 := 128#32
  let v583 : BitVec 32 := Scalar.muli v582 c128_i32_235
  v583
def k0_mult21 : BitVec 32 :=
  let c10_i32 : BitVec 32 := 10#32
  let c128_i32_285 : BitVec 32 := 128#32
  let v706 : BitVec 32 := Scalar.muli c10_i32 c128_i32_285
  v706
def k0_mult22 : BitVec 32 :=
  let c15_i32_286 : BitVec 32 := 15#32
  let c10_i32 : BitVec 32 := 10#32
  let v708 : BitVec 32 := Scalar.subi c15_i32_286 c10_i32
  let c128_i32_287 : BitVec 32 := 128#32
  let v709 : BitVec 32 := Scalar.muli v708 c128_i32_287
  v709
def k0_mult23 : BitVec 32 :=
  let c11_i32 : BitVec 32 := 11#32
  let c128_i32_337 : BitVec 32 := 128#32
  let v832 : BitVec 32 := Scalar.muli c11_i32 c128_i32_337
  v832
def k0_mult24 : BitVec 32 :=
  let c15_i32_338 : BitVec 32 := 15#32
  let c11_i32 : BitVec 32 := 11#32
  let v834 : BitVec 32 := Scalar.subi c15_i32_338 c11_i32
  let c128_i32_339 : BitVec 32 := 128#32
  let v835 : BitVec 32 := Scalar.muli v834 c128_i32_339
  v835
def k0_mult25 : BitVec 32 :=
  let c12_i32 : BitVec 32 := 12#32
  let c128_i32_389 : BitVec 32 := 128#32
  let v958 : BitVec 32 := Scalar.muli c12_i32 c128_i32_389
  v958
def k0_mult26 : BitVec 32 :=
  let c15_i32_390 : BitVec 32 := 15#32
  let c12_i32 : BitVec 32 := 12#32
  let v960 : BitVec 32 := Scalar.subi c15_i32_390 c12_i32
  let c128_i32_391 : BitVec 32 := 128#32
  let v961 : BitVec 32 := Scalar.muli v960 c128_i32_391
  v961
def k0_mult27 : BitVec 32 :=
  let c13_i32 : BitVec 32 := 13#32
  let c128_i32_441 : BitVec 32 := 128#32
  let v1084 : BitVec 32 := Scalar.muli c13_i32 c128_i32_441
  v1084
def k0_mult28 : BitVec 32 :=
  let c15_i32_442 : BitVec 32 := 15#32
  let c13_i32 : BitVec 32 := 13#32
  let v1086 : BitVec 32 := Scalar.subi c15_i32_442 c13_i32
  let c128_i32_443 : BitVec 32 := 128#32
  let v1087 : BitVec 32 := Scalar.muli v1086 c128_i32_443
  v1087
def k0_mult29 : BitVec 32 :=
  let c14_i32 : BitVec 32 := 14#32
  let c128_i32_493 : BitVec 32 := 128#32
  let v1210 : BitVec 32 := Scalar.muli c14_i32 c128_i32_493
  v1210
def k0_mult30 : BitVec 32 :=
  let c15_i32_494 : BitVec 32 := 15#32
  let c14_i32 : BitVec 32 := 14#32
  let v1212 : BitVec 32 := Scalar.subi c15_i32_494 c14_i32
  let c128_i32_495 : BitVec 32 := 128#32
  let v1213 : BitVec 32 := Scalar.muli v1212 c128_i32_495
  v1213
def k0_mult31 : BitVec 32 :=
  let c15_i32_545 : BitVec 32 := 15#32
  let c128_i32_546 : BitVec 32 := 128#32
  let v1336 : BitVec 32 := Scalar.muli c15_i32_545 c128_i32_546
  v1336
def k0_mult32 : BitVec 32 :=
  let c15_i32_547 : BitVec 32 := 15#32
  let c15_i32_545 : BitVec 32 := 15#32
  let v1338 : BitVec 32 := Scalar.subi c15_i32_547 c15_i32_545
  let c128_i32_548 : BitVec 32 := 128#32
  let v1339 : BitVec 32 := Scalar.muli v1338 c128_i32_548
  v1339
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x6656 : Shape := ⟨3, ![8, 2048, 6656]⟩
abbrev S512 : Shape := ⟨1, ![512]⟩
abbrev S8x2048x512 : Shape := ⟨3, ![8, 2048, 512]⟩
abbrev S4 : Shape := ⟨1, ![4]⟩
abbrev S_ : Shape := ⟨0, ![]⟩
abbrev S8x2048x4x128 : Shape := ⟨4, ![8, 2048, 4, 128]⟩
abbrev S8x16x128x4x128 : Shape := ⟨5, ![8, 16, 128, 4, 128]⟩
abbrev S8x4x16x128x128 : Shape := ⟨5, ![8, 4, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4x1x128x128 : Shape := ⟨5, ![1, 4, 1, 128, 128]⟩
abbrev S4x1 : Shape := ⟨2, ![4, 1]⟩
abbrev S4x128 : Shape := ⟨2, ![4, 128]⟩
abbrev S1x4x1x128x1 : Shape := ⟨5, ![1, 4, 1, 128, 1]⟩
abbrev S16x8x4x128x128 : Shape := ⟨5, ![16, 8, 4, 128, 128]⟩
abbrev S1x4x1x1 : Shape := ⟨4, ![1, 4, 1, 1]⟩
abbrev S1x8x4x128x128 : Shape := ⟨5, ![1, 8, 4, 128, 128]⟩
abbrev S8x4x128x128 : Shape := ⟨4, ![8, 4, 128, 128]⟩
abbrev S8x2048x4 : Shape := ⟨3, ![8, 2048, 4]⟩
abbrev S8x2048x4x1 : Shape := ⟨4, ![8, 2048, 4, 1]⟩
abbrev S1x1x512 : Shape := ⟨3, ![1, 1, 512]⟩

abbrev nBuf : Space → Nat
  | .hbm => 400
  | .vmem => 0
  | .smem => 0
  | _ => 0

abbrev hbmTy0_0 (i : Nat) : BufTy := match i % 128 with
  | 0 => ⟨S8x2048x6656, .bf16⟩
  | 1 => ⟨S512, .f32⟩
  | 2 => ⟨S8x2048x6656, .f32⟩
  | 3 => ⟨S8x2048x512, .f32⟩
  | 4 => ⟨S8x2048x512, .f32⟩
  | 5 => ⟨S8x2048x512, .f32⟩
  | 6 => ⟨S8x2048x512, .f32⟩
  | 7 => ⟨S4, .f32⟩
  | 8 => ⟨S_, .f32⟩
  | 9 => ⟨S4, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S4, .f32⟩
  | 18 => ⟨S8x2048x4x128, .f32⟩
  | 19 => ⟨S8x2048x4x128, .f32⟩
  | 20 => ⟨S8x2048x4x128, .f32⟩
  | 21 => ⟨S8x16x128x4x128, .f32⟩
  | 22 => ⟨S8x4x16x128x128, .f32⟩
  | 23 => ⟨S8x16x128x4x128, .f32⟩
  | 24 => ⟨S8x4x16x128x128, .f32⟩
  | 25 => ⟨S8x16x128x4x128, .f32⟩
  | 26 => ⟨S8x4x16x128x128, .f32⟩
  | 27 => ⟨S128, .f32⟩
  | 28 => ⟨S128x1, .f32⟩
  | 29 => ⟨S1x128, .f32⟩
  | 30 => ⟨S128x128, .f32⟩
  | 31 => ⟨S128x128, .f32⟩
  | 32 => ⟨S128x128, .f32⟩
  | 33 => ⟨S_, .f32⟩
  | 34 => ⟨S128x128, .f32⟩
  | 35 => ⟨S128x128, .i1⟩
  | 36 => ⟨S1x128x128, .i1⟩
  | 37 => ⟨S4x1x1, .f32⟩
  | 38 => ⟨S_, .f32⟩
  | 39 => ⟨S128x128, .f32⟩
  | 40 => ⟨S128x128, .f32⟩
  | 41 => ⟨S1x128x128, .f32⟩
  | 42 => ⟨S4x128x128, .f32⟩
  | 43 => ⟨S4x128x128, .f32⟩
  | 44 => ⟨S4x128x128, .f32⟩
  | 45 => ⟨S4x128x128, .f32⟩
  | 46 => ⟨S_, .f32⟩
  | 47 => ⟨S_, .f32⟩
  | 48 => ⟨S4x128x128, .i1⟩
  | 49 => ⟨S4x128x128, .f32⟩
  | 50 => ⟨S4x128x128, .f32⟩
  | 51 => ⟨S8x4x16x128x128, .f32⟩
  | 52 => ⟨S1x4x1x128x128, .f32⟩
  | 53 => ⟨S8x4x16x128x128, .f32⟩
  | 54 => ⟨S8x4x16x128x128, .f32⟩
  | 55 => ⟨S8x4x16x128x128, .f32⟩
  | 56 => ⟨S4x1, .f32⟩
  | 57 => ⟨S_, .f32⟩
  | 58 => ⟨S128, .f32⟩
  | 59 => ⟨S128, .f32⟩
  | 60 => ⟨S1x128, .f32⟩
  | 61 => ⟨S4x128, .f32⟩
  | 62 => ⟨S4x128, .f32⟩
  | 63 => ⟨S4x128, .f32⟩
  | 64 => ⟨S4x128, .f32⟩
  | 65 => ⟨S1x4x1x128x1, .f32⟩
  | 66 => ⟨S8x4x16x128x128, .f32⟩
  | 67 => ⟨S8x4x16x128x128, .f32⟩
  | 68 => ⟨S16x8x4x128x128, .f32⟩
  | 69 => ⟨S_, .f32⟩
  | 70 => ⟨S4, .f32⟩
  | 71 => ⟨S4, .f32⟩
  | 72 => ⟨S4, .f32⟩
  | 73 => ⟨S1x4x1x1, .f32⟩
  | 74 => ⟨S1x8x4x128x128, .f32⟩
  | 75 => ⟨S8x4x128x128, .f32⟩
  | 76 => ⟨S_, .f32⟩
  | 77 => ⟨S8x4x128x128, .f32⟩
  | 78 => ⟨S8x4x128x128, .f32⟩
  | 79 => ⟨S8x4x128x128, .f32⟩
  | 80 => ⟨S1x8x4x128x128, .f32⟩
  | 81 => ⟨S8x4x128x128, .f32⟩
  | 82 => ⟨S8x4x128x128, .f32⟩
  | 83 => ⟨S8x4x128x128, .f32⟩
  | 84 => ⟨S8x4x128x128, .f32⟩
  | 85 => ⟨S1x8x4x128x128, .f32⟩
  | 86 => ⟨S8x4x128x128, .f32⟩
  | 87 => ⟨S8x4x128x128, .f32⟩
  | 88 => ⟨S8x4x128x128, .f32⟩
  | 89 => ⟨S8x4x128x128, .f32⟩
  | 90 => ⟨S1x8x4x128x128, .f32⟩
  | 91 => ⟨S8x4x128x128, .f32⟩
  | 92 => ⟨S8x4x128x128, .f32⟩
  | 93 => ⟨S8x4x128x128, .f32⟩
  | 94 => ⟨S8x4x128x128, .f32⟩
  | 95 => ⟨S1x8x4x128x128, .f32⟩
  | 96 => ⟨S8x4x128x128, .f32⟩
  | 97 => ⟨S8x4x128x128, .f32⟩
  | 98 => ⟨S8x4x128x128, .f32⟩
  | 99 => ⟨S8x4x128x128, .f32⟩
  | 100 => ⟨S1x8x4x128x128, .f32⟩
  | 101 => ⟨S8x4x128x128, .f32⟩
  | 102 => ⟨S8x4x128x128, .f32⟩
  | 103 => ⟨S8x4x128x128, .f32⟩
  | 104 => ⟨S8x4x128x128, .f32⟩
  | 105 => ⟨S1x8x4x128x128, .f32⟩
  | 106 => ⟨S8x4x128x128, .f32⟩
  | 107 => ⟨S8x4x128x128, .f32⟩
  | 108 => ⟨S8x4x128x128, .f32⟩
  | 109 => ⟨S8x4x128x128, .f32⟩
  | 110 => ⟨S1x8x4x128x128, .f32⟩
  | 111 => ⟨S8x4x128x128, .f32⟩
  | 112 => ⟨S8x4x128x128, .f32⟩
  | 113 => ⟨S8x4x128x128, .f32⟩
  | 114 => ⟨S8x4x128x128, .f32⟩
  | 115 => ⟨S1x8x4x128x128, .f32⟩
  | 116 => ⟨S8x4x128x128, .f32⟩
  | 117 => ⟨S8x4x128x128, .f32⟩
  | 118 => ⟨S8x4x128x128, .f32⟩
  | 119 => ⟨S8x4x128x128, .f32⟩
  | 120 => ⟨S1x8x4x128x128, .f32⟩
  | 121 => ⟨S8x4x128x128, .f32⟩
  | 122 => ⟨S8x4x128x128, .f32⟩
  | 123 => ⟨S8x4x128x128, .f32⟩
  | 124 => ⟨S8x4x128x128, .f32⟩
  | 125 => ⟨S1x8x4x128x128, .f32⟩
  | 126 => ⟨S8x4x128x128, .f32⟩
  | 127 => ⟨S8x4x128x128, .f32⟩
  | _ => ⟨S8x2048x6656, .bf16⟩

abbrev hbmTy0_1 (i : Nat) : BufTy := match i % 128 with
  | 0 => ⟨S8x4x128x128, .f32⟩
  | 1 => ⟨S8x4x128x128, .f32⟩
  | 2 => ⟨S1x8x4x128x128, .f32⟩
  | 3 => ⟨S8x4x128x128, .f32⟩
  | 4 => ⟨S8x4x128x128, .f32⟩
  | 5 => ⟨S8x4x128x128, .f32⟩
  | 6 => ⟨S8x4x128x128, .f32⟩
  | 7 => ⟨S1x8x4x128x128, .f32⟩
  | 8 => ⟨S8x4x128x128, .f32⟩
  | 9 => ⟨S8x4x128x128, .f32⟩
  | 10 => ⟨S8x4x128x128, .f32⟩
  | 11 => ⟨S8x4x128x128, .f32⟩
  | 12 => ⟨S1x8x4x128x128, .f32⟩
  | 13 => ⟨S8x4x128x128, .f32⟩
  | 14 => ⟨S8x4x128x128, .f32⟩
  | 15 => ⟨S8x4x128x128, .f32⟩
  | 16 => ⟨S8x4x128x128, .f32⟩
  | 17 => ⟨S1x8x4x128x128, .f32⟩
  | 18 => ⟨S8x4x128x128, .f32⟩
  | 19 => ⟨S8x4x128x128, .f32⟩
  | 20 => ⟨S8x4x128x128, .f32⟩
  | 21 => ⟨S8x4x128x128, .f32⟩
  | 22 => ⟨S1x8x4x128x128, .f32⟩
  | 23 => ⟨S8x4x128x128, .f32⟩
  | 24 => ⟨S8x4x128x128, .f32⟩
  | 25 => ⟨S8x4x128x128, .f32⟩
  | 26 => ⟨S8x4x128x128, .f32⟩
  | 27 => ⟨S1x8x4x128x128, .f32⟩
  | 28 => ⟨S8x4x128x128, .f32⟩
  | 29 => ⟨S8x4x128x128, .f32⟩
  | 30 => ⟨S1x8x4x128x128, .f32⟩
  | 31 => ⟨S1x8x4x128x128, .f32⟩
  | 32 => ⟨S1x8x4x128x128, .f32⟩
  | 33 => ⟨S1x8x4x128x128, .f32⟩
  | 34 => ⟨S1x8x4x128x128, .f32⟩
  | 35 => ⟨S1x8x4x128x128, .f32⟩
  | 36 => ⟨S1x8x4x128x128, .f32⟩
  | 37 => ⟨S1x8x4x128x128, .f32⟩
  | 38 => ⟨S1x8x4x128x128, .f32⟩
  | 39 => ⟨S1x8x4x128x128, .f32⟩
  | 40 => ⟨S1x8x4x128x128, .f32⟩
  | 41 => ⟨S1x8x4x128x128, .f32⟩
  | 42 => ⟨S1x8x4x128x128, .f32⟩
  | 43 => ⟨S1x8x4x128x128, .f32⟩
  | 44 => ⟨S1x8x4x128x128, .f32⟩
  | 45 => ⟨S1x8x4x128x128, .f32⟩
  | 46 => ⟨S16x8x4x128x128, .f32⟩
  | 47 => ⟨S_, .f32⟩
  | 48 => ⟨S128, .f32⟩
  | 49 => ⟨S128, .f32⟩
  | 50 => ⟨S1x128, .f32⟩
  | 51 => ⟨S4x128, .f32⟩
  | 52 => ⟨S4x128, .f32⟩
  | 53 => ⟨S4x128, .f32⟩
  | 54 => ⟨S4x128, .f32⟩
  | 55 => ⟨S1x4x1x128x1, .f32⟩
  | 56 => ⟨S8x4x16x128x128, .f32⟩
  | 57 => ⟨S8x4x16x128x128, .f32⟩
  | 58 => ⟨S8x4x16x128x128, .f32⟩
  | 59 => ⟨S8x4x16x128x128, .f32⟩
  | 60 => ⟨S8x16x128x4x128, .f32⟩
  | 61 => ⟨S8x2048x4x128, .f32⟩
  | 62 => ⟨S8x2048x4x128, .f32⟩
  | 63 => ⟨S8x2048x4x128, .f32⟩
  | 64 => ⟨S8x2048x4x128, .f32⟩
  | 65 => ⟨S8x16x128x4x128, .f32⟩
  | 66 => ⟨S8x4x16x128x128, .f32⟩
  | 67 => ⟨S8x16x128x4x128, .f32⟩
  | 68 => ⟨S8x4x16x128x128, .f32⟩
  | 69 => ⟨S8x16x128x4x128, .f32⟩
  | 70 => ⟨S8x4x16x128x128, .f32⟩
  | 71 => ⟨S128, .f32⟩
  | 72 => ⟨S128x1, .f32⟩
  | 73 => ⟨S1x128, .f32⟩
  | 74 => ⟨S128x128, .f32⟩
  | 75 => ⟨S128x128, .f32⟩
  | 76 => ⟨S128x128, .f32⟩
  | 77 => ⟨S_, .f32⟩
  | 78 => ⟨S128x128, .f32⟩
  | 79 => ⟨S128x128, .i1⟩
  | 80 => ⟨S1x128x128, .i1⟩
  | 81 => ⟨S4x1x1, .f32⟩
  | 82 => ⟨S_, .f32⟩
  | 83 => ⟨S128x128, .f32⟩
  | 84 => ⟨S128x128, .f32⟩
  | 85 => ⟨S1x128x128, .f32⟩
  | 86 => ⟨S4x128x128, .f32⟩
  | 87 => ⟨S4x128x128, .f32⟩
  | 88 => ⟨S4x128x128, .f32⟩
  | 89 => ⟨S4x128x128, .f32⟩
  | 90 => ⟨S_, .f32⟩
  | 91 => ⟨S_, .f32⟩
  | 92 => ⟨S4x128x128, .i1⟩
  | 93 => ⟨S4x128x128, .f32⟩
  | 94 => ⟨S4x128x128, .f32⟩
  | 95 => ⟨S8x4x16x128x128, .f32⟩
  | 96 => ⟨S1x4x1x128x128, .f32⟩
  | 97 => ⟨S8x4x16x128x128, .f32⟩
  | 98 => ⟨S8x4x16x128x128, .f32⟩
  | 99 => ⟨S8x4x16x128x128, .f32⟩
  | 100 => ⟨S4x1, .f32⟩
  | 101 => ⟨S_, .f32⟩
  | 102 => ⟨S128, .f32⟩
  | 103 => ⟨S128, .f32⟩
  | 104 => ⟨S1x128, .f32⟩
  | 105 => ⟨S4x128, .f32⟩
  | 106 => ⟨S4x128, .f32⟩
  | 107 => ⟨S4x128, .f32⟩
  | 108 => ⟨S4x128, .f32⟩
  | 109 => ⟨S1x4x1x128x1, .f32⟩
  | 110 => ⟨S8x4x16x128x128, .f32⟩
  | 111 => ⟨S8x4x16x128x128, .f32⟩
  | 112 => ⟨S16x8x4x128x128, .f32⟩
  | 113 => ⟨S_, .f32⟩
  | 114 => ⟨S4, .f32⟩
  | 115 => ⟨S4, .f32⟩
  | 116 => ⟨S4, .f32⟩
  | 117 => ⟨S1x4x1x1, .f32⟩
  | 118 => ⟨S1x8x4x128x128, .f32⟩
  | 119 => ⟨S8x4x128x128, .f32⟩
  | 120 => ⟨S_, .f32⟩
  | 121 => ⟨S8x4x128x128, .f32⟩
  | 122 => ⟨S8x4x128x128, .f32⟩
  | 123 => ⟨S8x4x128x128, .f32⟩
  | 124 => ⟨S1x8x4x128x128, .f32⟩
  | 125 => ⟨S8x4x128x128, .f32⟩
  | 126 => ⟨S8x4x128x128, .f32⟩
  | 127 => ⟨S8x4x128x128, .f32⟩
  | _ => ⟨S8x2048x6656, .bf16⟩

abbrev hbmTy0_2 (i : Nat) : BufTy := match i % 128 with
  | 0 => ⟨S8x4x128x128, .f32⟩
  | 1 => ⟨S1x8x4x128x128, .f32⟩
  | 2 => ⟨S8x4x128x128, .f32⟩
  | 3 => ⟨S8x4x128x128, .f32⟩
  | 4 => ⟨S8x4x128x128, .f32⟩
  | 5 => ⟨S8x4x128x128, .f32⟩
  | 6 => ⟨S1x8x4x128x128, .f32⟩
  | 7 => ⟨S8x4x128x128, .f32⟩
  | 8 => ⟨S8x4x128x128, .f32⟩
  | 9 => ⟨S8x4x128x128, .f32⟩
  | 10 => ⟨S8x4x128x128, .f32⟩
  | 11 => ⟨S1x8x4x128x128, .f32⟩
  | 12 => ⟨S8x4x128x128, .f32⟩
  | 13 => ⟨S8x4x128x128, .f32⟩
  | 14 => ⟨S8x4x128x128, .f32⟩
  | 15 => ⟨S8x4x128x128, .f32⟩
  | 16 => ⟨S1x8x4x128x128, .f32⟩
  | 17 => ⟨S8x4x128x128, .f32⟩
  | 18 => ⟨S8x4x128x128, .f32⟩
  | 19 => ⟨S8x4x128x128, .f32⟩
  | 20 => ⟨S8x4x128x128, .f32⟩
  | 21 => ⟨S1x8x4x128x128, .f32⟩
  | 22 => ⟨S8x4x128x128, .f32⟩
  | 23 => ⟨S8x4x128x128, .f32⟩
  | 24 => ⟨S8x4x128x128, .f32⟩
  | 25 => ⟨S8x4x128x128, .f32⟩
  | 26 => ⟨S1x8x4x128x128, .f32⟩
  | 27 => ⟨S8x4x128x128, .f32⟩
  | 28 => ⟨S8x4x128x128, .f32⟩
  | 29 => ⟨S8x4x128x128, .f32⟩
  | 30 => ⟨S8x4x128x128, .f32⟩
  | 31 => ⟨S1x8x4x128x128, .f32⟩
  | 32 => ⟨S8x4x128x128, .f32⟩
  | 33 => ⟨S8x4x128x128, .f32⟩
  | 34 => ⟨S8x4x128x128, .f32⟩
  | 35 => ⟨S8x4x128x128, .f32⟩
  | 36 => ⟨S1x8x4x128x128, .f32⟩
  | 37 => ⟨S8x4x128x128, .f32⟩
  | 38 => ⟨S8x4x128x128, .f32⟩
  | 39 => ⟨S8x4x128x128, .f32⟩
  | 40 => ⟨S8x4x128x128, .f32⟩
  | 41 => ⟨S1x8x4x128x128, .f32⟩
  | 42 => ⟨S8x4x128x128, .f32⟩
  | 43 => ⟨S8x4x128x128, .f32⟩
  | 44 => ⟨S8x4x128x128, .f32⟩
  | 45 => ⟨S8x4x128x128, .f32⟩
  | 46 => ⟨S1x8x4x128x128, .f32⟩
  | 47 => ⟨S8x4x128x128, .f32⟩
  | 48 => ⟨S8x4x128x128, .f32⟩
  | 49 => ⟨S8x4x128x128, .f32⟩
  | 50 => ⟨S8x4x128x128, .f32⟩
  | 51 => ⟨S1x8x4x128x128, .f32⟩
  | 52 => ⟨S8x4x128x128, .f32⟩
  | 53 => ⟨S8x4x128x128, .f32⟩
  | 54 => ⟨S8x4x128x128, .f32⟩
  | 55 => ⟨S8x4x128x128, .f32⟩
  | 56 => ⟨S1x8x4x128x128, .f32⟩
  | 57 => ⟨S8x4x128x128, .f32⟩
  | 58 => ⟨S8x4x128x128, .f32⟩
  | 59 => ⟨S8x4x128x128, .f32⟩
  | 60 => ⟨S8x4x128x128, .f32⟩
  | 61 => ⟨S1x8x4x128x128, .f32⟩
  | 62 => ⟨S8x4x128x128, .f32⟩
  | 63 => ⟨S8x4x128x128, .f32⟩
  | 64 => ⟨S8x4x128x128, .f32⟩
  | 65 => ⟨S8x4x128x128, .f32⟩
  | 66 => ⟨S1x8x4x128x128, .f32⟩
  | 67 => ⟨S8x4x128x128, .f32⟩
  | 68 => ⟨S8x4x128x128, .f32⟩
  | 69 => ⟨S8x4x128x128, .f32⟩
  | 70 => ⟨S8x4x128x128, .f32⟩
  | 71 => ⟨S1x8x4x128x128, .f32⟩
  | 72 => ⟨S8x4x128x128, .f32⟩
  | 73 => ⟨S8x4x128x128, .f32⟩
  | 74 => ⟨S1x8x4x128x128, .f32⟩
  | 75 => ⟨S1x8x4x128x128, .f32⟩
  | 76 => ⟨S1x8x4x128x128, .f32⟩
  | 77 => ⟨S1x8x4x128x128, .f32⟩
  | 78 => ⟨S1x8x4x128x128, .f32⟩
  | 79 => ⟨S1x8x4x128x128, .f32⟩
  | 80 => ⟨S1x8x4x128x128, .f32⟩
  | 81 => ⟨S1x8x4x128x128, .f32⟩
  | 82 => ⟨S1x8x4x128x128, .f32⟩
  | 83 => ⟨S1x8x4x128x128, .f32⟩
  | 84 => ⟨S1x8x4x128x128, .f32⟩
  | 85 => ⟨S1x8x4x128x128, .f32⟩
  | 86 => ⟨S1x8x4x128x128, .f32⟩
  | 87 => ⟨S1x8x4x128x128, .f32⟩
  | 88 => ⟨S1x8x4x128x128, .f32⟩
  | 89 => ⟨S1x8x4x128x128, .f32⟩
  | 90 => ⟨S16x8x4x128x128, .f32⟩
  | 91 => ⟨S_, .f32⟩
  | 92 => ⟨S128, .f32⟩
  | 93 => ⟨S128, .f32⟩
  | 94 => ⟨S1x128, .f32⟩
  | 95 => ⟨S4x128, .f32⟩
  | 96 => ⟨S4x128, .f32⟩
  | 97 => ⟨S4x128, .f32⟩
  | 98 => ⟨S4x128, .f32⟩
  | 99 => ⟨S1x4x1x128x1, .f32⟩
  | 100 => ⟨S8x4x16x128x128, .f32⟩
  | 101 => ⟨S8x4x16x128x128, .f32⟩
  | 102 => ⟨S8x4x16x128x128, .f32⟩
  | 103 => ⟨S8x4x16x128x128, .f32⟩
  | 104 => ⟨S8x16x128x4x128, .f32⟩
  | 105 => ⟨S8x2048x4x128, .f32⟩
  | 106 => ⟨S8x2048x4x128, .f32⟩
  | 107 => ⟨S8x2048x4x128, .f32⟩
  | 108 => ⟨S_, .f32⟩
  | 109 => ⟨S8x2048x4, .f32⟩
  | 110 => ⟨S8x2048x4x1, .f32⟩
  | 111 => ⟨S_, .f32⟩
  | 112 => ⟨S8x2048x4x1, .f32⟩
  | 113 => ⟨S8x2048x4x1, .f32⟩
  | 114 => ⟨S8x2048x4x128, .f32⟩
  | 115 => ⟨S8x2048x4x128, .f32⟩
  | 116 => ⟨S8x2048x4x128, .f32⟩
  | 117 => ⟨S_, .f32⟩
  | 118 => ⟨S8x2048x4, .f32⟩
  | 119 => ⟨S8x2048x4x1, .f32⟩
  | 120 => ⟨S_, .f32⟩
  | 121 => ⟨S8x2048x4x1, .f32⟩
  | 122 => ⟨S8x2048x4x1, .f32⟩
  | 123 => ⟨S_, .f32⟩
  | 124 => ⟨S8x2048x4x1, .f32⟩
  | 125 => ⟨S8x2048x4x1, .f32⟩
  | 126 => ⟨S8x2048x4x1, .f32⟩
  | 127 => ⟨S8x2048x4x128, .f32⟩
  | _ => ⟨S8x2048x6656, .bf16⟩

abbrev hbmTy0_3 (i : Nat) : BufTy := match i % 128 with
  | 0 => ⟨S8x2048x4x128, .f32⟩
  | 1 => ⟨S8x2048x512, .f32⟩
  | 2 => ⟨S1x1x512, .f32⟩
  | 3 => ⟨S8x2048x512, .f32⟩
  | 4 => ⟨S8x2048x512, .f32⟩
  | 5 => ⟨S8x2048x512, .f32⟩
  | 6 => ⟨S8x2048x512, .f32⟩
  | 7 => ⟨S_, .f32⟩
  | 8 => ⟨S8x2048x512, .f32⟩
  | 9 => ⟨S8x2048x512, .f32⟩
  | 10 => ⟨S_, .f32⟩
  | 11 => ⟨S8x2048x512, .f32⟩
  | 12 => ⟨S8x2048x512, .f32⟩
  | 13 => ⟨S8x2048x512, .f32⟩
  | 14 => ⟨S8x2048x512, .f32⟩
  | 15 => ⟨S8x2048x512, .bf16⟩
  | _ => ⟨S8x2048x6656, .bf16⟩

abbrev hbmTy (i : Nat) : BufTy := match i / 128 with
  | 0 => hbmTy0_0 i
  | 1 => hbmTy0_1 i
  | 2 => hbmTy0_2 i
  | 3 => hbmTy0_3 i
  | _ => ⟨S8x2048x6656, .bf16⟩

abbrev bufTy : (tb : Table) → Fin (tcTables nBuf tb) → BufTy
  | .hbm, ⟨i, _⟩ => hbmTy i
  | _, _ => ⟨S8x2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_cst_8 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_cst_9 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_cst_10 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_cst_11 : Ref sig .tc := ⟨.hbm, 218, rfl⟩
abbrev main_call4_v0 : Ref sig .tc := ⟨.hbm, 219, rfl⟩
abbrev main_call4_v1 : Ref sig .tc := ⟨.hbm, 220, rfl⟩
abbrev main_call4_v2 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_cst_12 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_cst_13 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_cst_14 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_cst_15 : Ref sig .tc := ⟨.hbm, 347, rfl⟩
abbrev main_v323 : Ref sig .tc := ⟨.hbm, 348, rfl⟩
abbrev main_v324 : Ref sig .tc := ⟨.hbm, 349, rfl⟩
abbrev main_v325 : Ref sig .tc := ⟨.hbm, 350, rfl⟩
abbrev main_v326 : Ref sig .tc := ⟨.hbm, 351, rfl⟩
abbrev main_v327 : Ref sig .tc := ⟨.hbm, 352, rfl⟩
abbrev main_v328 : Ref sig .tc := ⟨.hbm, 353, rfl⟩
abbrev main_v329 : Ref sig .tc := ⟨.hbm, 354, rfl⟩
abbrev main_v330 : Ref sig .tc := ⟨.hbm, 355, rfl⟩
abbrev main_v331 : Ref sig .tc := ⟨.hbm, 356, rfl⟩
abbrev main_v332 : Ref sig .tc := ⟨.hbm, 357, rfl⟩
abbrev main_v333 : Ref sig .tc := ⟨.hbm, 358, rfl⟩
abbrev main_v334 : Ref sig .tc := ⟨.hbm, 359, rfl⟩
abbrev main_v335 : Ref sig .tc := ⟨.hbm, 360, rfl⟩
abbrev main_v336 : Ref sig .tc := ⟨.hbm, 361, rfl⟩
abbrev main_v337 : Ref sig .tc := ⟨.hbm, 362, rfl⟩
abbrev main_v338 : Ref sig .tc := ⟨.hbm, 363, rfl⟩
abbrev main_cst_16 : Ref sig .tc := ⟨.hbm, 364, rfl⟩
abbrev main_v339 : Ref sig .tc := ⟨.hbm, 365, rfl⟩
abbrev main_v340 : Ref sig .tc := ⟨.hbm, 366, rfl⟩
abbrev main_cst_17 : Ref sig .tc := ⟨.hbm, 367, rfl⟩
abbrev main_v341 : Ref sig .tc := ⟨.hbm, 368, rfl⟩
abbrev main_v342 : Ref sig .tc := ⟨.hbm, 369, rfl⟩
abbrev main_v343 : Ref sig .tc := ⟨.hbm, 370, rfl⟩
abbrev main_v344 : Ref sig .tc := ⟨.hbm, 371, rfl⟩
abbrev main_v345 : Ref sig .tc := ⟨.hbm, 372, rfl⟩
abbrev main_cst_18 : Ref sig .tc := ⟨.hbm, 373, rfl⟩
abbrev main_v346 : Ref sig .tc := ⟨.hbm, 374, rfl⟩
abbrev main_v347 : Ref sig .tc := ⟨.hbm, 375, rfl⟩
abbrev main_cst_19 : Ref sig .tc := ⟨.hbm, 376, rfl⟩
abbrev main_v348 : Ref sig .tc := ⟨.hbm, 377, rfl⟩
abbrev main_v349 : Ref sig .tc := ⟨.hbm, 378, rfl⟩
abbrev main_cst_20 : Ref sig .tc := ⟨.hbm, 379, rfl⟩
abbrev main_v350 : Ref sig .tc := ⟨.hbm, 380, rfl⟩
abbrev main_v351 : Ref sig .tc := ⟨.hbm, 381, rfl⟩
abbrev main_v352 : Ref sig .tc := ⟨.hbm, 382, rfl⟩
abbrev main_v353 : Ref sig .tc := ⟨.hbm, 383, rfl⟩
abbrev main_v354 : Ref sig .tc := ⟨.hbm, 384, rfl⟩
abbrev main_v355 : Ref sig .tc := ⟨.hbm, 385, rfl⟩
abbrev main_v356 : Ref sig .tc := ⟨.hbm, 386, rfl⟩
abbrev main_v357 : Ref sig .tc := ⟨.hbm, 387, rfl⟩
abbrev main_v358 : Ref sig .tc := ⟨.hbm, 388, rfl⟩
abbrev main_call6_v0 : Ref sig .tc := ⟨.hbm, 389, rfl⟩
abbrev main_call6_v1 : Ref sig .tc := ⟨.hbm, 390, rfl⟩
abbrev main_call6_cst : Ref sig .tc := ⟨.hbm, 391, rfl⟩
abbrev main_call6_v2 : Ref sig .tc := ⟨.hbm, 392, rfl⟩
abbrev main_call6_v3 : Ref sig .tc := ⟨.hbm, 393, rfl⟩
abbrev main_call6_cst_0 : Ref sig .tc := ⟨.hbm, 394, rfl⟩
abbrev main_call6_v4 : Ref sig .tc := ⟨.hbm, 395, rfl⟩
abbrev main_call6_v5 : Ref sig .tc := ⟨.hbm, 396, rfl⟩
abbrev main_v359 : Ref sig .tc := ⟨.hbm, 397, rfl⟩
abbrev main_v360 : Ref sig .tc := ⟨.hbm, 398, rfl⟩
abbrev main_v361 : Ref sig .tc := ⟨.hbm, 399, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x1x1024 : Shape := ⟨3, ![8, 1, 1024]⟩
abbrev S1024 : Shape := ⟨1, ![1024]⟩
abbrev S1024x6656 : Shape := ⟨2, ![1024, 6656]⟩
abbrev S1024x2048 : Shape := ⟨2, ![1024, 2048]⟩
abbrev S1024x4608 : Shape := ⟨2, ![1024, 4608]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x1024 : Shape := ⟨2, ![1, 1024]⟩
abbrev S8x2048x6656 : Shape := ⟨3, ![8, 2048, 6656]⟩
abbrev S1x512x1024 : Shape := ⟨3, ![1, 512, 1024]⟩
abbrev S1x1x1024 : Shape := ⟨3, ![1, 1, 1024]⟩
abbrev S512x128 : Shape := ⟨2, ![512, 128]⟩
abbrev S1x512x6656 : Shape := ⟨3, ![1, 512, 6656]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩
abbrev S1x512x128 : Shape := ⟨3, ![1, 512, 128]⟩

abbrev nBuf : Space → Nat
  | .hbm => 32
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x6656, .f32⟩
  | .hbm, ⟨5, _⟩ => ⟨S1024x2048, .f32⟩
  | .hbm, ⟨6, _⟩ => ⟨S1024x4608, .f32⟩
  | .hbm, ⟨7, _⟩ => ⟨S1024x6656, .f32⟩
  | .hbm, ⟨8, _⟩ => ⟨S1024x6656, .bf16⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S2048, .f32⟩
  | .hbm, ⟨20, _⟩ => ⟨S2048x1, .f32⟩
  | .hbm, ⟨21, _⟩ => ⟨S1x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x128, .f32⟩
  | .hbm, ⟨28, _⟩ => ⟨S2048x64, .f32⟩
  | .hbm, ⟨29, _⟩ => ⟨S2048x128, .f32⟩
  | .hbm, ⟨30, _⟩ => ⟨S1x1024, .f32⟩
  | .hbm, ⟨31, _⟩ => ⟨S8x2048x6656, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1024x6656, .bf16⟩
  | .local _ .vmem, ⟨12, _⟩ => ⟨S1x512x6656, .bf16⟩
  | .local _ .vmem, ⟨13, _⟩ => ⟨S1x512x6656, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x6656 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x6656 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "inv_sqrt_d" => some (((Real.sqrt 128)⁻¹ : ℝ) : EReal)
  | _ => none
-- ==== Reference2Ideal.lean ====
abbrev S8x2048x1024 : Shape := ⟨3, ![8, 2048, 1024]⟩
abbrev S8x1x1024 : Shape := ⟨3, ![8, 1, 1024]⟩
abbrev S1024 : Shape := ⟨1, ![1024]⟩
abbrev S1024x6656 : Shape := ⟨2, ![1024, 6656]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6656 : Shape := ⟨3, ![8, 2048, 6656]⟩
abbrev S8x2048x512 : Shape := ⟨3, ![8, 2048, 512]⟩
abbrev S8x2048x3584 : Shape := ⟨3, ![8, 2048, 3584]⟩
abbrev S8x2048x2048 : Shape := ⟨3, ![8, 2048, 2048]⟩
abbrev S8x2048x4x128 : Shape := ⟨4, ![8, 2048, 4, 128]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x4x64 : Shape := ⟨4, ![8, 2048, 4, 64]⟩

abbrev nBuf : Space → Nat
  | .hbm => 109
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x6656, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x6656, .f32⟩
  | .hbm, ⟨29, _⟩ => ⟨S8x2048x512, .f32⟩
  | .hbm, ⟨30, _⟩ => ⟨S8x2048x512, .f32⟩
  | .hbm, ⟨31, _⟩ => ⟨S8x2048x3584, .f32⟩
  | .hbm, ⟨32, _⟩ => ⟨S8x2048x2048, .f32⟩
  | .hbm, ⟨33, _⟩ => ⟨S8x2048x4x128, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S2048, .f32⟩
  | .hbm, ⟨45, _⟩ => ⟨S2048x1, .f32⟩
  | .hbm, ⟨46, _⟩ => ⟨S1x64, .f32⟩
  | .hbm, ⟨47, _⟩ => ⟨S2048x64, .f32⟩
  | .hbm, ⟨48, _⟩ => ⟨S2048x64, .f32⟩
  | .hbm, ⟨49, _⟩ => ⟨S2048x64, .f32⟩
  | .hbm, ⟨50, _⟩ => ⟨S2048x64, .f32⟩
  | .hbm, ⟨51, _⟩ => ⟨S1x2048x1x64, .f32⟩
  | .hbm, ⟨52, _⟩ => ⟨S2048x64, .f32⟩
  | .hbm, ⟨53, _⟩ => ⟨S1x2048x1x64, .f32⟩
  | .hbm, ⟨54, _⟩ => ⟨S8x2048x4x64, .f32⟩
  | .hbm, ⟨55, _⟩ => ⟨S8x2048x4x64, .f32⟩
  | .hbm, ⟨56, _⟩ => ⟨S8x2048x4x64, .f32⟩
  | .hbm, ⟨57, _⟩ => ⟨S8x2048x4x64, .f32⟩
  | .hbm, ⟨58, _⟩ => ⟨S8x2048x4x64, .f32⟩
  | .hbm, ⟨59, _⟩ => ⟨S8x2048x4x64, .f32⟩
  | .hbm, ⟨60, _⟩ => ⟨S8x2048x4x64, .f32⟩
  | .hbm, ⟨61, _⟩ => ⟨S8x2048x4x64, .f32⟩
  | .hbm, ⟨62, _⟩ => ⟨S8x2048x4x64, .f32⟩
  | .hbm, ⟨63, _⟩ => ⟨S8x2048x4x64, .f32⟩
  | .hbm, ⟨64, _⟩ => ⟨S8x2048x4x64, .f32⟩
  | .hbm, ⟨65, _⟩ => ⟨S8x2048x4x64, .f32⟩
  | .hbm, ⟨66, _⟩ => ⟨S8x2048x4x128, .f32⟩
  | .hbm, ⟨67, _⟩ => ⟨S8x2048x512, .f32⟩
  | .hbm, ⟨68, _⟩ => ⟨S8x2048x4x128, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S2048, .f32⟩
  | .hbm, ⟨80, _⟩ => ⟨S2048x1, .f32⟩
  | .hbm, ⟨81, _⟩ => ⟨S1x64, .f32⟩
  | .hbm, ⟨82, _⟩ => ⟨S2048x64, .f32⟩
  | .hbm, ⟨83, _⟩ => ⟨S2048x64, .f32⟩
  | .hbm, ⟨84, _⟩ => ⟨S2048x64, .f32⟩
  | .hbm, ⟨85, _⟩ => ⟨S2048x64, .f32⟩
  | .hbm, ⟨86, _⟩ => ⟨S1x2048x1x64, .f32⟩
  | .hbm, ⟨87, _⟩ => ⟨S2048x64, .f32⟩
  | .hbm, ⟨88, _⟩ => ⟨S1x2048x1x64, .f32⟩
  | .hbm, ⟨89, _⟩ => ⟨S8x2048x4x64, .f32⟩
  | .hbm, ⟨90, _⟩ => ⟨S8x2048x4x64, .f32⟩
  | .hbm, ⟨91, _⟩ => ⟨S8x2048x4x64, .f32⟩
  | .hbm, ⟨92, _⟩ => ⟨S8x2048x4x64, .f32⟩
  | .hbm, ⟨93, _⟩ => ⟨S8x2048x4x64, .f32⟩
  | .hbm, ⟨94, _⟩ => ⟨S8x2048x4x64, .f32⟩
  | .hbm, ⟨95, _⟩ => ⟨S8x2048x4x64, .f32⟩
  | .hbm, ⟨96, _⟩ => ⟨S8x2048x4x64, .f32⟩
  | .hbm, ⟨97, _⟩ => ⟨S8x2048x4x64, .f32⟩
  | .hbm, ⟨98, _⟩ => ⟨S8x2048x4x64, .f32⟩
  | .hbm, ⟨99, _⟩ => ⟨S8x2048x4x64, .f32⟩
  | .hbm, ⟨100, _⟩ => ⟨S8x2048x4x64, .f32⟩
  | .hbm, ⟨101, _⟩ => ⟨S8x2048x4x128, .f32⟩
  | .hbm, ⟨102, _⟩ => ⟨S_, .f32⟩
  | .hbm, ⟨103, _⟩ => ⟨S_, .f32⟩
  | .hbm, ⟨104, _⟩ => ⟨S8x2048x4x128, .f32⟩
  | .hbm, ⟨105, _⟩ => ⟨S8x2048x4x128, .f32⟩
  | .hbm, ⟨106, _⟩ => ⟨S8x2048x512, .f32⟩
  | .hbm, ⟨107, _⟩ => ⟨S8x2048x6656, .f32⟩
  | .hbm, ⟨108, _⟩ => ⟨S8x2048x6656, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_cst_8 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_9 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩

abbrev nD : Nat := 1
abbrev τ : Topo := Topo.v7x

variable {F : FTy → Type} [FloatOps F]
-- ==== Kernel3.lean ====
abbrev S16 : Shape := ⟨1, ![16]⟩
abbrev S16x6656x1024 : Shape := ⟨3, ![16, 6656, 1024]⟩
abbrev S16x1024x2048 : Shape := ⟨3, ![16, 1024, 2048]⟩
abbrev S16x2048x1024 : Shape := ⟨3, ![16, 2048, 1024]⟩
abbrev S17x6656x1024 : Shape := ⟨3, ![17, 6656, 1024]⟩
abbrev S1x512x1024 : Shape := ⟨3, ![1, 512, 1024]⟩
abbrev S1x1024x512 : Shape := ⟨3, ![1, 1024, 512]⟩
abbrev S2x4x1024x512 : Shape := ⟨4, ![2, 4, 1024, 512]⟩
abbrev S2x4x512x1024 : Shape := ⟨4, ![2, 4, 512, 1024]⟩
abbrev S1024x512 : Shape := ⟨2, ![1024, 512]⟩
abbrev S1x1x1024x512 : Shape := ⟨4, ![1, 1, 1024, 512]⟩
abbrev S512x1024 : Shape := ⟨2, ![512, 1024]⟩
abbrev S1x1x512x1024 : Shape := ⟨4, ![1, 1, 512, 1024]⟩
abbrev S1 : Shape := ⟨1, ![1]⟩
abbrev S512x512 : Shape := ⟨2, ![512, 512]⟩
abbrev S1x256x1024 : Shape := ⟨3, ![1, 256, 1024]⟩
abbrev S256x1024 : Shape := ⟨2, ![256, 1024]⟩
abbrev S256x512 : Shape := ⟨2, ![256, 512]⟩

abbrev nBuf : Space → Nat
  | .hbm => 5
  | .vmem => 13
  | .smem => 1
  | _ => 0

abbrev bufTy : (tb : Table) → Fin (tcTables nBuf tb) → BufTy
  | .hbm, ⟨0, _⟩ => ⟨S16x6656x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S17x6656x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S2x4x1024x512, .bf16⟩
  | .local _ .vmem, ⟨11, _⟩ => ⟨S2x4x1024x512, .bf16⟩
  | .local _ .vmem, ⟨12, _⟩ => ⟨S2x4x512x1024, .bf16⟩
  | .local _ .smem, ⟨0, _⟩ => ⟨S16, .i32⟩
  | _, _ => ⟨S16x6656x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 13], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32_10 : BitVec 32 := 0#32
  let v21 : BitVec 1 := Scalar.cmpi .eq arg1 c0_i32_10
  let arg0 : BitVec 32 := BitVec.ofNat 32 (i 0).val
  let c16_i32 : BitVec 32 := 16#32
  let v22 : BitVec 1 := Scalar.cmpi .slt arg0 c16_i32
  let v23 : BitVec 1 := Scalar.andi v21 v22
  let v24 : BitVec 32 := Scalar.extui v23
  let c0_i32_11 : BitVec 32 := 0#32
  let v25 : BitVec 1 := Scalar.cmpi .ne v24 c0_i32_11
  v25

def k0_off1 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c0_49 : Index := 0#32
  let c0_50 : Index := 0#32
  let c0_51 : Index := 0#32
  ![v107.toNat, 0, 0, 0]
def k0_cond2 (i : grid0.Coords) : BitVec 1 :=
  let arg1 : BitVec 32 := BitVec.ofNat 32 (i 1).val
  let c1_i32_12 : BitVec 32 := 1#32
  let v26 : BitVec 1 := Scalar.cmpi .eq arg1 c1_i32_12
  let arg0 : BitVec 32 := BitVec.ofNat 32 (i 0).val
  let c16_i32_13 : BitVec 32 := 16#32
  let v27 : BitVec 1 := Scalar.cmpi .slt arg0 c16_i32_13
  let v28 : BitVec 1 := Scalar.andi v26 v27
  let v29 : BitVec 32 := Scalar.extui v28
  let c0_i32_14 : BitVec 32 := 0#32
  let v30 : BitVec 1 := Scalar.cmpi .ne v29 c0_i32_14
  v30

def k0_off2 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c1 : Index := 1#32
  let c0_49 : Index := 0#32
  let c0_50 : Index := 0#32
  ![v107.toNat, 1, 0, 0]
def k0_cond3 (i : grid0.Coords) : BitVec 1 :=
  let arg1 : BitVec 32 := BitVec.ofNat 32 (i 1).val
  let c2_i32_15 : BitVec 32 := 2#32
  let v31 : BitVec 1 := Scalar.cmpi .eq arg1 c2_i32_15
  let arg0 : BitVec 32 := BitVec.ofNat 32 (i 0).val
  let c16_i32_16 : BitVec 32 := 16#32
  let v32 : BitVec 1 := Scalar.cmpi .slt arg0 c16_i32_16
  let v33 : BitVec 1 := Scalar.andi v31 v32
  let v34 : BitVec 32 := Scalar.extui v33
  let c0_i32_17 : BitVec 32 := 0#32
  let v35 : BitVec 1 := Scalar.cmpi .ne v34 c0_i32_17
  v35

def k0_off3 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c2 : Index := 2#32
  let c0_49 : Index := 0#32
  let c0_50 : Index := 0#32
  ![v107.toNat, 2, 0, 0]
def k0_cond4 (i : grid0.Coords) : BitVec 1 :=
  let arg1 : BitVec 32 := BitVec.ofNat 32 (i 1).val
  let c3_i32 : BitVec 32 := 3#32
  let v36 : BitVec 1 := Scalar.cmpi .eq arg1 c3_i32
  let arg0 : BitVec 32 := BitVec.ofNat 32 (i 0).val
  let c16_i32_18 : BitVec 32 := 16#32
  let v37 : BitVec 1 := Scalar.cmpi .slt arg0 c16_i32_18
  let v38 : BitVec 1 := Scalar.andi v36 v37
  let v39 : BitVec 32 := Scalar.extui v38
  let c0_i32_19 : BitVec 32 := 0#32
  let v40 : BitVec 1 := Scalar.cmpi .ne v39 c0_i32_19
  v40

def k0_off4 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c3 : Index := 3#32
  let c0_49 : Index := 0#32
  let c0_50 : Index := 0#32
  ![v107.toNat, 3, 0, 0]
def k0_cond5 (i : grid0.Coords) : BitVec 1 :=
  let arg1 : BitVec 32 := BitVec.ofNat 32 (i 1).val
  let c4_i32 : BitVec 32 := 4#32
  let v41 : BitVec 1 := Scalar.cmpi .eq arg1 c4_i32
  let arg0 : BitVec 32 := BitVec.ofNat 32 (i 0).val
  let c16_i32_20 : BitVec 32 := 16#32
  let v42 : BitVec 1 := Scalar.cmpi .slt arg0 c16_i32_20
  let v43 : BitVec 1 := Scalar.andi v41 v42
  let v44 : BitVec 32 := Scalar.extui v43
  let c0_i32_21 : BitVec 32 := 0#32
  let v45 : BitVec 1 := Scalar.cmpi .ne v44 c0_i32_21
  v45

def k0_off5 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c0_49 : Index := 0#32
  let c0_50 : Index := 0#32
  let c0_51 : Index := 0#32
  ![v107.toNat, 0, 0, 0]
def k0_cond6 (i : grid0.Coords) : BitVec 1 :=
  let arg1 : BitVec 32 := BitVec.ofNat 32 (i 1).val
  let c5_i32 : BitVec 32 := 5#32
  let v46 : BitVec 1 := Scalar.cmpi .eq arg1 c5_i32
  let arg0 : BitVec 32 := BitVec.ofNat 32 (i 0).val
  let c16_i32_22 : BitVec 32 := 16#32
  let v47 : BitVec 1 := Scalar.cmpi .slt arg0 c16_i32_22
  let v48 : BitVec 1 := Scalar.andi v46 v47
  let v49 : BitVec 32 := Scalar.extui v48
  let c0_i32_23 : BitVec 32 := 0#32
  let v50 : BitVec 1 := Scalar.cmpi .ne v49 c0_i32_23
  v50

def k0_off6 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c1 : Index := 1#32
  let c0_49 : Index := 0#32
  let c0_50 : Index := 0#32
  ![v107.toNat, 1, 0, 0]
def k0_cond7 (i : grid0.Coords) : BitVec 1 :=
  let arg1 : BitVec 32 := BitVec.ofNat 32 (i 1).val
  let c6_i32 : BitVec 32 := 6#32
  let v51 : BitVec 1 := Scalar.cmpi .eq arg1 c6_i32
  let arg0 : BitVec 32 := BitVec.ofNat 32 (i 0).val
  let c16_i32_24 : BitVec 32 := 16#32
  let v52 : BitVec 1 := Scalar.cmpi .slt arg0 c16_i32_24
  let v53 : BitVec 1 := Scalar.andi v51 v52
  let v54 : BitVec 32 := Scalar.extui v53
  let c0_i32_25 : BitVec 32 := 0#32
  let v55 : BitVec 1 := Scalar.cmpi .ne v54 c0_i32_25
  v55

def k0_off7 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c2 : Index := 2#32
  let c0_49 : Index := 0#32
  let c0_50 : Index := 0#32
  ![v107.toNat, 2, 0, 0]
def k0_cond8 (i : grid0.Coords) : BitVec 1 :=
  let arg1 : BitVec 32 := BitVec.ofNat 32 (i 1).val
  let c7_i32 : BitVec 32 := 7#32
  let v56 : BitVec 1 := Scalar.cmpi .eq arg1 c7_i32
  let arg0 : BitVec 32 := BitVec.ofNat 32 (i 0).val
  let c16_i32_26 : BitVec 32 := 16#32
  let v57 : BitVec 1 := Scalar.cmpi .slt arg0 c16_i32_26
  let v58 : BitVec 1 := Scalar.andi v56 v57
  let v59 : BitVec 32 := Scalar.extui v58
  let c0_i32_27 : BitVec 32 := 0#32
  let v60 : BitVec 1 := Scalar.cmpi .ne v59 c0_i32_27
  v60

def k0_off8 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c3 : Index := 3#32
  let c0_49 : Index := 0#32
  let c0_50 : Index := 0#32
  ![v107.toNat, 3, 0, 0]
def k0_cond9 (i : grid0.Coords) : BitVec 1 :=
  let arg1 : BitVec 32 := BitVec.ofNat 32 (i 1).val
  let c8_i32 : BitVec 32 := 8#32
  let v61 : BitVec 1 := Scalar.cmpi .eq arg1 c8_i32
  let arg0 : BitVec 32 := BitVec.ofNat 32 (i 0).val
  let c16_i32_28 : BitVec 32 := 16#32
  let v62 : BitVec 1 := Scalar.cmpi .slt arg0 c16_i32_28
  let v63 : BitVec 1 := Scalar.andi v61 v62
  let v64 : BitVec 32 := Scalar.extui v63
  let c0_i32_29 : BitVec 32 := 0#32
  let v65 : BitVec 1 := Scalar.cmpi .ne v64 c0_i32_29
  v65

def k0_off9 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c0_49 : Index := 0#32
  let c0_50 : Index := 0#32
  let c0_51 : Index := 0#32
  ![v107.toNat, 0, 0, 0]
def k0_cond10 (i : grid0.Coords) : BitVec 1 :=
  let arg1 : BitVec 32 := BitVec.ofNat 32 (i 1).val
  let c9_i32 : BitVec 32 := 9#32
  let v66 : BitVec 1 := Scalar.cmpi .eq arg1 c9_i32
  let arg0 : BitVec 32 := BitVec.ofNat 32 (i 0).val
  let c16_i32_30 : BitVec 32 := 16#32
  let v67 : BitVec 1 := Scalar.cmpi .slt arg0 c16_i32_30
  let v68 : BitVec 1 := Scalar.andi v66 v67
  let v69 : BitVec 32 := Scalar.extui v68
  let c0_i32_31 : BitVec 32 := 0#32
  let v70 : BitVec 1 := Scalar.cmpi .ne v69 c0_i32_31
  v70

def k0_off10 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c1 : Index := 1#32
  let c0_49 : Index := 0#32
  let c0_50 : Index := 0#32
  ![v107.toNat, 1, 0, 0]
def k0_cond11 (i : grid0.Coords) : BitVec 1 :=
  let arg1 : BitVec 32 := BitVec.ofNat 32 (i 1).val
  let c10_i32 : BitVec 32 := 10#32
  let v71 : BitVec 1 := Scalar.cmpi .eq arg1 c10_i32
  let arg0 : BitVec 32 := BitVec.ofNat 32 (i 0).val
  let c16_i32_32 : BitVec 32 := 16#32
  let v72 : BitVec 1 := Scalar.cmpi .slt arg0 c16_i32_32
  let v73 : BitVec 1 := Scalar.andi v71 v72
  let v74 : BitVec 32 := Scalar.extui v73
  let c0_i32_33 : BitVec 32 := 0#32
  let v75 : BitVec 1 := Scalar.cmpi .ne v74 c0_i32_33
  v75

def k0_off11 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c2 : Index := 2#32
  let c0_49 : Index := 0#32
  let c0_50 : Index := 0#32
  ![v107.toNat, 2, 0, 0]
def k0_cond12 (i : grid0.Coords) : BitVec 1 :=
  let arg1 : BitVec 32 := BitVec.ofNat 32 (i 1).val
  let c11_i32 : BitVec 32 := 11#32
  let v76 : BitVec 1 := Scalar.cmpi .eq arg1 c11_i32
  let arg0 : BitVec 32 := BitVec.ofNat 32 (i 0).val
  let c16_i32_34 : BitVec 32 := 16#32
  let v77 : BitVec 1 := Scalar.cmpi .slt arg0 c16_i32_34
  let v78 : BitVec 1 := Scalar.andi v76 v77
  let v79 : BitVec 32 := Scalar.extui v78
  let c0_i32_35 : BitVec 32 := 0#32
  let v80 : BitVec 1 := Scalar.cmpi .ne v79 c0_i32_35
  v80

def k0_off12 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c3 : Index := 3#32
  let c0_49 : Index := 0#32
  let c0_50 : Index := 0#32
  ![v107.toNat, 3, 0, 0]
def k0_off13 (i : grid0.Coords) : Fin 1 → Nat :=
  let arg0 : BitVec 32 := BitVec.ofNat 32 (i 0).val
  let c1_i32_37 : BitVec 32 := 1#32
  let v84 : BitVec 32 := Scalar.subi arg0 c1_i32_37
  let c0_i32_38 : BitVec 32 := 0#32
  let v85 : BitVec 32 := Scalar.maxsi v84 c0_i32_38
  let v86 : Index := Scalar.indexCast v85
  ![v86.toNat]
def k0_off14 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v107 : Index := Scalar.indexCast v20
  let c0_49 : Index := 0#32
  let c0_50 : Index := 0#32
  let c0_51 : Index := 0#32
  ![v107.toNat, 0, 0, 0]
def k0_off15 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v125 : Index := Scalar.indexCast v20
  let c0_60 : Index := 0#32
  let c0_61 : Index := 0#32
  let c0_62 : Index := 0#32
  ![v125.toNat, 0, 0, 0]
def k0_off16 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v130 : Index := Scalar.indexCast v20
  let c1 : Index := 1#32
  let c0_64 : Index := 0#32
  let c0_65 : Index := 0#32
  ![v130.toNat, 1, 0, 0]
def k0_off17 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v148 : Index := Scalar.indexCast v20
  let c1_74 : Index := 1#32
  let c0_75 : Index := 0#32
  let c0_76 : Index := 0#32
  ![v148.toNat, 1, 0, 0]
def k0_off18 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v153 : Index := Scalar.indexCast v20
  let c2 : Index := 2#32
  let c0_78 : Index := 0#32
  let c0_79 : Index := 0#32
  ![v153.toNat, 2, 0, 0]
def k0_off19 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v171 : Index := Scalar.indexCast v20
  let c2_88 : Index := 2#32
  let c0_89 : Index := 0#32
  let c0_90 : Index := 0#32
  ![v171.toNat, 2, 0, 0]
def k0_off20 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v176 : Index := Scalar.indexCast v20
  let c3 : Index := 3#32
  let c0_92 : Index := 0#32
  let c0_93 : Index := 0#32
  ![v176.toNat, 3, 0, 0]
def k0_off21 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v194 : Index := Scalar.indexCast v20
  let c3_102 : Index := 3#32
  let c0_103 : Index := 0#32
  let c0_104 : Index := 0#32
  ![v194.toNat, 3, 0, 0]
def k0_off22 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v107 : Index := Scalar.indexCast v20
  let c0_49 : Index := 0#32
  let c0_50 : Index := 0#32
  let c0_51 : Index := 0#32
  ![v107.toNat, 0, 0, 0]
def k0_off23 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v125 : Index := Scalar.indexCast v20
  let c0_60 : Index := 0#32
  let c0_61 : Index := 0#32
  let c0_62 : Index := 0#32
  ![v125.toNat, 0, 0, 0]
def k0_off24 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v130 : Index := Scalar.indexCast v20
  let c1 : Index := 1#32
  let c0_64 : Index := 0#32
  let c0_65 : Index := 0#32
  ![v130.toNat, 1, 0, 0]
def k0_off25 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v148 : Index := Scalar.indexCast v20
  let c1_74 : Index := 1#32
  let c0_75 : Index := 0#32
  let c0_76 : Index := 0#32
  ![v148.toNat, 1, 0, 0]
def k0_off26 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v153 : Index := Scalar.indexCast v20
  let c2 : Index := 2#32
  let c0_78 : Index := 0#32
  let c0_79 : Index := 0#32
  ![v153.toNat, 2, 0, 0]
def k0_off27 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v171 : Index := Scalar.indexCast v20
  let c2_88 : Index := 2#32
  let c0_89 : Index := 0#32
  let c0_90 : Index := 0#32
  ![v171.toNat, 2, 0, 0]
def k0_off28 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v176 : Index := Scalar.indexCast v20
  let c3 : Index := 3#32
  let c0_92 : Index := 0#32
  let c0_93 : Index := 0#32
  ![v176.toNat, 3, 0, 0]
def k0_off29 (i : grid0.Coords) : Fin 4 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v194 : Index := Scalar.indexCast v20
  let c3_102 : Index := 3#32
  let c0_103 : Index := 0#32
  let c0_104 : Index := 0#32
  ![v194.toNat, 3, 0, 0]
def k0_cond13 (i : grid0.Coords) (v87 : BitVec 32) : BitVec 1 :=
  let arg0 : BitVec 32 := BitVec.ofNat 32 (i 0).val
  let c0_i32_36 : BitVec 32 := 0#32
  let v81 : BitVec 1 := Scalar.cmpi .sgt arg0 c0_i32_36
  let arg1 : BitVec 32 := BitVec.ofNat 32 (i 1).val
  let c13_i32 : BitVec 32 := 13#32
  let v82 : BitVec 1 := Scalar.cmpi .slt arg1 c13_i32
  let v83 : BitVec 1 := Scalar.andi v81 v82
  let c512_i32 : BitVec 32 := 512#32
  let v88 : BitVec 32 := Scalar.muli arg1 c512_i32
  let v89 : BitVec 32 := Scalar.subi v87 v88
  let c0_i32_39 : BitVec 32 := 0#32
  let v90 : BitVec 32 := Scalar.select v83 v89 c0_i32_39
  let c256_i32 : BitVec 32 := 256#32
  let v91 : BitVec 1 := Scalar.cmpi .sgt v90 c256_i32
  let v92 : BitVec 32 := Scalar.extui v91
  let c0_i32_40 : BitVec 32 := 0#32
  let v93 : BitVec 1 := Scalar.cmpi .ne v92 c0_i32_40
  v93

def k0_cond14 (i : grid0.Coords) (v87 : BitVec 32) : BitVec 1 :=
  let arg0 : BitVec 32 := BitVec.ofNat 32 (i 0).val
  let c0_i32_36 : BitVec 32 := 0#32
  let v81 : BitVec 1 := Scalar.cmpi .sgt arg0 c0_i32_36
  let arg1 : BitVec 32 := BitVec.ofNat 32 (i 1).val
  let c13_i32 : BitVec 32 := 13#32
  let v82 : BitVec 1 := Scalar.cmpi .slt arg1 c13_i32
  let v83 : BitVec 1 := Scalar.andi v81 v82
  let c512_i32 : BitVec 32 := 512#32
  let v88 : BitVec 32 := Scalar.muli arg1 c512_i32
  let v89 : BitVec 32 := Scalar.subi v87 v88
  let c0_i32_39 : BitVec 32 := 0#32
  let v90 : BitVec 32 := Scalar.select v83 v89 c0_i32_39
  let c0_i32_41 : BitVec 32 := 0#32
  let v94 : BitVec 1 := Scalar.cmpi .sgt v90 c0_i32_41
  let c256_i32_42 : BitVec 32 := 256#32
  let v95 : BitVec 1 := Scalar.cmpi .sle v90 c256_i32_42
  let v96 : BitVec 1 := Scalar.andi v94 v95
  let v97 : BitVec 32 := Scalar.extui v96
  let c0_i32_43 : BitVec 32 := 0#32
  let v98 : BitVec 1 := Scalar.cmpi .ne v97 c0_i32_43
  v98

def k0_cond15 (i : grid0.Coords) (v87 : BitVec 32) : BitVec 1 :=
  let arg0 : BitVec 32 := BitVec.ofNat 32 (i 0).val
  let c0_i32_36 : BitVec 32 := 0#32
  let v81 : BitVec 1 := Scalar.cmpi .sgt arg0 c0_i32_36
  let arg1 : BitVec 32 := BitVec.ofNat 32 (i 1).val
  let c13_i32 : BitVec 32 := 13#32
  let v82 : BitVec 1 := Scalar.cmpi .slt arg1 c13_i32
  let v83 : BitVec 1 := Scalar.andi v81 v82
  let c512_i32 : BitVec 32 := 512#32
  let v88 : BitVec 32 := Scalar.muli arg1 c512_i32
  let v89 : BitVec 32 := Scalar.subi v87 v88
  let c0_i32_39 : BitVec 32 := 0#32
  let v90 : BitVec 32 := Scalar.select v83 v89 c0_i32_39
  let c0_i32_44 : BitVec 32 := 0#32
  let v99 : BitVec 1 := Scalar.cmpi .sle v90 c0_i32_44
  let c13_i32_45 : BitVec 32 := 13#32
  let v100 : BitVec 1 := Scalar.cmpi .slt arg1 c13_i32_45
  let v101 : BitVec 1 := Scalar.andi v99 v100
  let v102 : BitVec 32 := Scalar.extui v101
  let c0_i32_46 : BitVec 32 := 0#32
  let v103 : BitVec 1 := Scalar.cmpi .ne v102 c0_i32_46
  v103

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.minsi arg1 c12_i32
  let c0_i32_0 : BitVec 32 := 0#32
  let c0_i32_1 : BitVec 32 := 0#32
  ![v1.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let v1 : BitVec 32 := Scalar.subi arg1 c0_i32
  let c0_i32_0 : BitVec 32 := 0#32
  let c3_i32 : BitVec 32 := 3#32
  let v2 : BitVec 32 := Scalar.maxsi c0_i32_0 v1
  let v3 : BitVec 32 := Scalar.minsi c3_i32 v2
  let c0_i32_1 : BitVec 32 := 0#32
  let c0_i32_2 : BitVec 32 := 0#32
  ![v0.toNat, c0_i32_1.toNat, v3.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c4_i32 : BitVec 32 := 4#32
  let v1 : BitVec 32 := Scalar.subi arg1 c4_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![v0.toNat, c0_i32_0.toNat, v3.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c8_i32 : BitVec 32 := 8#32
  let v1 : BitVec 32 := Scalar.subi arg1 c8_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![v0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c16_i32 : BitVec 32 := 16#32
  let v2 : BitVec 32 := Scalar.select v0 c16_i32 v1
  let c12_i32 : BitVec 32 := 12#32
  let v3 : BitVec 32 := Scalar.minsi arg1 c12_i32
  let c0_i32_0 : BitVec 32 := 0#32
  let c0_i32_1 : BitVec 32 := 0#32
  ![v2.toNat, v3.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16 : Shape := ⟨1, ![16]⟩
abbrev S16x6656x1024 : Shape := ⟨3, ![16, 6656, 1024]⟩
abbrev S16x1024x2048 : Shape := ⟨3, ![16, 1024, 2048]⟩
abbrev S16x2048x1024 : Shape := ⟨3, ![16, 2048, 1024]⟩
abbrev S16x6656x2048 : Shape := ⟨3, ![16, 6656, 2048]⟩
abbrev S_ : Shape := ⟨0, ![]⟩
abbrev S1x6656x1024 : Shape := ⟨3, ![1, 6656, 1024]⟩
abbrev S17x6656x1024 : Shape := ⟨3, ![17, 6656, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16, .i32⟩
  | .hbm, ⟨1, _⟩ => ⟨S16x6656x1024, .bf16⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S16x6656x1024, .f32⟩
  | .hbm, ⟨6, _⟩ => ⟨S16x6656x2048, .f32⟩
  | .hbm, ⟨7, _⟩ => ⟨S16x6656x2048, .f32⟩
  | .hbm, ⟨8, _⟩ => ⟨S16x6656x2048, .f32⟩
  | .hbm, ⟨9, _⟩ => ⟨S16x6656x2048, .f32⟩
  | .hbm, ⟨10, _⟩ => ⟨S_, .f32⟩
  | .hbm, ⟨11, _⟩ => ⟨S16x6656x2048, .f32⟩
  | .hbm, ⟨12, _⟩ => ⟨S16x6656x2048, .f32⟩
  | .hbm, ⟨13, _⟩ => ⟨S_, .f32⟩
  | .hbm, ⟨14, _⟩ => ⟨S16x6656x2048, .f32⟩
  | .hbm, ⟨15, _⟩ => ⟨S16x6656x2048, .f32⟩
  | .hbm, ⟨16, _⟩ => ⟨S16x6656x2048, .f32⟩
  | .hbm, ⟨17, _⟩ => ⟨S16x6656x2048, .f32⟩
  | .hbm, ⟨18, _⟩ => ⟨S16x6656x1024, .f32⟩
  | .hbm, ⟨19, _⟩ => ⟨S1x6656x1024, .f32⟩
  | .hbm, ⟨20, _⟩ => ⟨S_, .f32⟩
  | .hbm, ⟨21, _⟩ => ⟨S1x6656x1024, .f32⟩
  | .hbm, ⟨22, _⟩ => ⟨S17x6656x1024, .f32⟩
  | .hbm, ⟨23, _⟩ => ⟨S17x6656x1024, .bf16⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2048x512 : Shape := ⟨3, ![8, 2048, 512]⟩
abbrev S8x2048x6656 : Shape := ⟨3, ![8, 2048, 6656]⟩
abbrev S8x1x1024 : Shape := ⟨3, ![8, 1, 1024]⟩
abbrev S1024 : Shape := ⟨1, ![1024]⟩
abbrev S512x1024 : Shape := ⟨2, ![512, 1024]⟩
abbrev S1024x1024 : Shape := ⟨2, ![1024, 1024]⟩
abbrev S1024x16 : Shape := ⟨2, ![1024, 16]⟩
abbrev S16x1024 : Shape := ⟨2, ![16, 1024]⟩
abbrev S32x1024 : Shape := ⟨2, ![32, 1024]⟩
abbrev S1x1024 : Shape := ⟨2, ![1, 1024]⟩
abbrev S16x16384 : Shape := ⟨2, ![16, 16384]⟩
abbrev S1x512x1024 : Shape := ⟨3, ![1, 512, 1024]⟩
abbrev S1x512x512 : Shape := ⟨3, ![1, 512, 512]⟩
abbrev S1x1x1024 : Shape := ⟨3, ![1, 1, 1024]⟩
abbrev S16x512 : Shape := ⟨2, ![16, 512]⟩
abbrev S512x512 : Shape := ⟨2, ![512, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩

abbrev nBuf : Space → Nat
  | .hbm => 27
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x6656, .bf16⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x16, .f32⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S16x1024, .f32⟩
  | .hbm, ⟨17, _⟩ => ⟨S16x1024, .bf16⟩
  | .hbm, ⟨18, _⟩ => ⟨S16x1024, .f32⟩
  | .hbm, ⟨19, _⟩ => ⟨S16x1024, .f32⟩
  | .hbm, ⟨20, _⟩ => ⟨S16x1024, .bf16⟩
  | .hbm, ⟨21, _⟩ => ⟨S32x1024, .bf16⟩
  | .hbm, ⟨22, _⟩ => ⟨S1x1024, .f32⟩
  | .hbm, ⟨23, _⟩ => ⟨S1x1024, .f32⟩
  | .hbm, ⟨24, _⟩ => ⟨S8x2048x1024, .f32⟩
  | .hbm, ⟨25, _⟩ => ⟨S8x2048x1024, .bf16⟩
  | .hbm, ⟨26, _⟩ => ⟨S16x16384, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S32x1024, .bf16⟩
  | .local _ .vmem, ⟨22, _⟩ => ⟨S1x512x1024, .f32⟩
  | .local _ .vmem, ⟨23, _⟩ => ⟨S1x512x1024, .f32⟩
  | .local _ .vmem, ⟨24, _⟩ => ⟨S1x512x1024, .bf16⟩
  | .local _ .vmem, ⟨25, _⟩ => ⟨S1x512x1024, .bf16⟩
  | .local _ .vmem, ⟨26, _⟩ => ⟨S16x512, .f32⟩
  | .local _ .vmem, ⟨27, _⟩ => ⟨S16x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S32x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S8x2048x1024 : Shape := ⟨3, ![8, 2048, 1024]⟩
abbrev S8x2048x512 : Shape := ⟨3, ![8, 2048, 512]⟩
abbrev S8x2048x6656 : Shape := ⟨3, ![8, 2048, 6656]⟩
abbrev S8x1x1024 : Shape := ⟨3, ![8, 1, 1024]⟩
abbrev S1024 : Shape := ⟨1, ![1024]⟩
abbrev S512x1024 : Shape := ⟨2, ![512, 1024]⟩
abbrev S1024x1024 : Shape := ⟨2, ![1024, 1024]⟩
abbrev S1024x16 : Shape := ⟨2, ![1024, 16]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x6656, .bf16⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x16, .f32⟩
  | .hbm, ⟨13, _⟩ => ⟨S8x2048x1024, .bf16⟩
  | .hbm, ⟨14, _⟩ => ⟨S8x2048x1024, .f32⟩
  | .hbm, ⟨15, _⟩ => ⟨S8x2048x1024, .bf16⟩
  | .hbm, ⟨16, _⟩ => ⟨S8x2048x1024, .f32⟩
  | .hbm, ⟨17, _⟩ => ⟨S8x2048x512, .f32⟩
  | .hbm, ⟨18, _⟩ => ⟨S8x2048x512, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S8x2048x1, .f32⟩
  | .hbm, ⟨71, _⟩ => ⟨S8x2048x1024, .f32⟩
  | .hbm, ⟨72, _⟩ => ⟨S8x2048x1024, .f32⟩
  | .hbm, ⟨73, _⟩ => ⟨S1x1x1024, .f32⟩
  | .hbm, ⟨74, _⟩ => ⟨S8x2048x1024, .f32⟩
  | .hbm, ⟨75, _⟩ => ⟨S8x2048x1024, .f32⟩
  | .hbm, ⟨76, _⟩ => ⟨S_, .f32⟩
  | .hbm, ⟨77, _⟩ => ⟨S8x1x1024, .f32⟩
  | .hbm, ⟨78, _⟩ => ⟨S8x1x1024, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Proof.Ret.Body.lean ====
/-
  The retention kernel's body at one grid point, in one vocabulary.

  The body walks the sixteen chunks of one head of one batch forward and, at the same time, backward. This file names
  the four things a step computes -- the next state, the forward output, the backward output, the finished output --
  and the sequences of states and outputs they give, and proves that what the body leaves in its output block is,
  chunk by chunk, the finished output of that chunk.
-/
module

public import proofs.«01_k».proof.Proof.Gen.KernelIdeal.Value
public import Idealize.ShloMosaic.Lib.Pipeline.ReadBack
public import Idealize.ShloMosaic.Lib.Pointwise
public import Idealize.ShloMosaic.Lib.Pipeline.ValueKit.Tiles

@[expose] public section

set_option maxRecDepth 16384

noncomputable section

namespace Cert.Ret

open Cert.KernelIdeal Cert.KernelIdeal.Gen Idealize.ShloMosaic Idealize.ShloMosaic.TcCoe Idealize.SL.Sem
open Idealize.ShloMosaic.Tactic

variable {F : FTy → Type} [FloatOps F]

abbrev Chunk (F : FTy → Type) [FloatOps F] := Vec F S1x128x128 .bf16
abbrev Tile (F : FTy → Type) [FloatOps F] (φ : FTy) := FVec F S128x128 φ

/-! ## The four operations of a step -/

/-- The next state: the chunk's decay times the state, plus the decayed keys against the values. -/
def step (f : Tile F .bf16) (g : FVec F S1x128 .f32) (r : Tile F .f32) (k v : Chunk F) : Tile F .f32 := k0_pay13 f g r k v

/-- The forward output of a chunk: the decayed scores beside the decayed queries, against the values above the state. -/
def fwd (d : Tile F .f32) (f : Tile F .bf16) (r : Tile F .f32) (q k v : Chunk F) : Tile F .f32 := k0_pay78 d f r q k v

/-- The backward output of a chunk: the decayed queries against the state. -/
def bwd (f : Tile F .bf16) (r : Tile F .f32) (q : Chunk F) : Tile F .f32 := k0_pay14 f r q

/-- The finished output of a chunk: the sum of both directions, normalized over the head, scaled and gated. -/
def fin (y b : Tile F .f32) (g : Chunk F) (gn : Vec F S1x1x128 .f32) : Chunk F := k0_pay86 (k0_pay85 y b g gn)

section Steps

variable (f : Tile F .bf16) (d r : Tile F .f32) (g : FVec F S1x128 .f32) (q k v : Chunk F) (gn : Vec F S1x1x128 .f32)

/-- Every spelling of the next state in the body is `step`. -/
theorem step_forms :
    k0_pay13 f g r k v = step f g r k v ∧ k0_pay21 f g r k v = step f g r k v
    ∧ k0_pay33 (k0_pay29 v) (k0_pay31 g r) (k0_pay32 f k) (constant S128x128 .f32 0#32) = step f g r k v
    ∧ k0_pay40 f g r (k0_pay38 k) v = step f g r k v ∧ k0_pay47 f g r k v = step f g r k v
    ∧ k0_pay57 f g r k v = step f g r k v ∧ k0_pay65 f g r (k0_pay62 k) (k0_pay63 v) = step f g r k v
    ∧ k0_pay71 f g r k v = step f g r k v ∧ k0_pay79 f g r k v = step f g r k v
    ∧ k0_pay92 f g r k v = step f g r k v ∧ k0_pay105 f g r k v = step f g r k v
    ∧ k0_pay119 f g r k v = step f g r k v ∧ k0_pay135 f g r k v = step f g r k v
    ∧ k0_pay151 f g r k v = step f g r k v ∧ k0_pay168 f g r k v = step f g r k v
    ∧ k0_pay15 f g r k v = step f g r k v ∧ k0_pay25 f g r (k0_pay23 k) (k0_pay24 v) = step f g r k v
    ∧ k0_pay34 f g r k v = step f g r k v ∧ k0_pay41 f g r k v = step f g r k v
    ∧ k0_pay51 (k0_pay49 g r) (k0_pay50 f k v) = step f g r k v ∧ k0_pay59 f g r k v = step f g r k v
    ∧ k0_pay66 f g r k v = step f g r k v ∧ k0_pay73 f g r k v = step f g r k v
    ∧ k0_pay84 f g r (k0_pay81 k) (k0_pay82 v) = step f g r k v ∧ k0_pay96 f g r (k0_pay94 k) v = step f g r k v
    ∧ k0_pay109 f g r (k0_pay107 k) v = step f g r k v ∧ k0_pay123 f g r (k0_pay121 k) v = step f g r k v
    ∧ k0_pay139 f g r (k0_pay137 k) v = step f g r k v ∧ k0_pay155 f g r (k0_pay153 k) v = step f g r k v
    ∧ k0_pay171 f g r k v = step f g r k v := by
  and_intros <;> rfl

/-- Every spelling of the forward output in the body is `fwd`. -/
theorem fwd_forms :
    k0_pay78 d f r q k v = fwd d f r q k v ∧ k0_pay91 d f r q k v = fwd d f r q k v
    ∧ k0_pay104 d f r q k v = fwd d f r q k v ∧ k0_pay118 d f r q k v = fwd d f r q k v
    ∧ k0_pay134 d f r q k v = fwd d f r q k v ∧ k0_pay150 d f r q k v = fwd d f r q k v
    ∧ k0_pay167 d f r q k v = fwd d f r q k v ∧ k0_pay181 d f r q k v = fwd d f r q k v := by
  and_intros <;> rfl

/-- So is every forward output the first half of the walk stores. -/
theorem fwd_stored :
    k0_pay16 d f r q k v = fwd d f r q k v ∧ k0_pay26 (k0_pay20 d f r q k v) = fwd d f r q k v
    ∧ k0_pay35 (k0_pay30 d f r q k v) = fwd d f r q k v
    ∧ k0_pay42 d f r (k0_pay37 q) (k0_pay38 k) v = fwd d f r q k v
    ∧ k0_pay52 (k0_pay46 d f r q k v) = fwd d f r q k v ∧ k0_pay60 (k0_pay56 d f r q k v) = fwd d f r q k v
    ∧ k0_pay67 r (k0_pay63 v) (k0_pay64 d f q k) = fwd d f r q k v ∧ k0_pay74 d f r q k v = fwd d f r q k v := by
  and_intros <;> exact shapeCast_self _ _

/-- Every spelling of the backward output in the body is `bwd`. -/
theorem bwd_forms :
    k0_pay83 f r (k0_pay80 q) = bwd f r q
    ∧ k0_pay95 f r (k0_pay93 q) = bwd f r q ∧ k0_pay108 f r (k0_pay106 q) = bwd f r q
    ∧ k0_pay122 f r (k0_pay120 q) = bwd f r q ∧ k0_pay138 f r (k0_pay136 q) = bwd f r q
    ∧ k0_pay154 f r (k0_pay152 q) = bwd f r q ∧ k0_pay170 f r (k0_pay169 q) = bwd f r q
    ∧ k0_pay183 f r (k0_pay182 q) = bwd f r q := by
  and_intros <;> rfl

/-- So is every backward output the first half of the walk stores. -/
theorem bwd_stored :
    k0_pay17 (k0_pay14 f r q) = bwd f r q ∧ k0_pay27 f r (k0_pay22 q) = bwd f r q
    ∧ k0_pay36 f r q = bwd f r q ∧ k0_pay43 f r q = bwd f r q ∧ k0_pay53 (k0_pay48 f r q) = bwd f r q
    ∧ k0_pay61 f r (k0_pay58 q) = bwd f r q ∧ k0_pay68 f r q = bwd f r q
    ∧ k0_pay75 (k0_pay72 f r q) = bwd f r q := by
  and_intros <;> exact shapeCast_self _ _

/-- Every spelling of the finished output in the body is `fin`. -/
theorem fin_forms (y b : Tile F .f32) (g : Chunk F) :
    k0_pay86 (k0_pay85 y b g gn) = fin y b g gn ∧ k0_pay88 (k0_pay87 y b g gn) = fin y b g gn
    ∧ k0_pay99 (k0_pay97 y b gn) (k0_pay98 g) = fin y b g gn ∧ k0_pay101 (k0_pay100 y b g gn) = fin y b g gn
    ∧ k0_pay113 (k0_pay110 g) (k0_pay111 y b gn) (k0_pay112 g) = fin y b g gn
    ∧ k0_pay115 (k0_pay114 y b g gn) = fin y b g gn
    ∧ k0_pay128 (k0_pay124 g) (k0_pay125 y b gn) (k0_pay126 g) k0_pay127 = fin y b g gn
    ∧ k0_pay131 (k0_pay129 y b gn) (k0_pay130 g) = fin y b g gn
    ∧ k0_pay143 (k0_pay140 g) (k0_pay141 y b gn) (k0_pay142 g) (FloatOps.ofBits .f32 1065353216#32) = fin y b g gn
    ∧ k0_pay147 (k0_pay144 g) (k0_pay145 y b gn) (k0_pay146 g) = fin y b g gn
    ∧ k0_pay159 (k0_pay156 g) (k0_pay157 y b gn) (k0_pay158 g) = fin y b g gn
    ∧ k0_pay164 (k0_pay160 g) (k0_pay161 y b gn) (k0_pay162 g) k0_pay163 = fin y b g gn
    ∧ k0_pay176 (k0_pay172 g) (k0_pay173 y b gn) (k0_pay174 g) k0_pay175 = fin y b g gn
    ∧ k0_pay180 (k0_pay177 g) (k0_pay178 y b gn) (k0_pay179 g) (FloatOps.ofBits .f32 1065353216#32) = fin y b g gn
    ∧ k0_pay187 (k0_pay184 g) (k0_pay185 y b gn) (k0_pay186 g) (FloatOps.ofBits .f32 1065353216#32) = fin y b g gn
    ∧ k0_pay1 (k0_pay188 g) (k0_pay189 y b gn) (k0_pay190 g) = fin y b g gn := by
  and_intros <;> rfl

end Steps

/-! ## The sequences of a walk -/

/-- Rows `o` to `o + 127` of a block. -/
def chunkAt (X : Vec F S1x2048x128 .bf16) (o : ℕ) : Chunk F :=
  fun i => X (ix3 0 ⟨(o + (i 1).val) % 2048, Nat.mod_lt _ (by omega)⟩ (i 2))

/-- A load of 128 rows of a block is those rows. -/
theorem ld_chunk (X : Vec F S1x2048x128 .bf16) (o : ℕ) (h : ∀ a, ![0, o, 0] a + ![1, 128, 128] a ≤ S1x2048x128.size a) :
    View.ld X (Rect.unit ![0, o, 0] ![1, 128, 128] h) = chunkAt X o := by
  funext x
  have h1 : o + 128 ≤ 2048 := h 1
  have h2 : (x 1).val < 128 := (x 1).isLt
  have h3 : (x 0).val < 1 := (x 0).isLt
  refine View.ld_unit_apply_of X _ _ h x _ fun a => ?_
  match a with
  | ⟨0, _⟩ => show 0 = 0 + (x 0).val; omega
  | ⟨1, _⟩ => show (o + (x 1).val) % 2048 = o + (x 1).val; omega
  | ⟨2, _⟩ => show (x 2).val = 0 + (x 2).val; omega

/-- A read of 128 rows of a staged block is those rows. -/
theorem readAt_chunk (M : Memref sig .tc .vmem S1x2048x128 .bf16) (hM : M.IsWhole) (X : Vec F S1x2048x128 .bf16) (o : ℕ)
    (h : ∀ a, ![0, o, 0] a + ![1, 128, 128] a ≤ S1x2048x128.size a) :
    View.readAt (Elt F) M.view (Rect.unit ![0, o, 0] ![1, 128, 128] h).toLoadRect (hM.unread X) = chunkAt X o := by
  rw [View.readAt_eq_ld, hM.read_unread]
  exact ld_chunk X o h

/-- A read of a whole staged row is that row. -/
theorem readAt_row (M : Memref sig .tc .vmem S1x1x128 .f32) (hM : M.IsWhole) (X : Vec F S1x1x128 .f32)
    (h : ∀ a, ![0, 0, 0] a + ![1, 1, 128] a ≤ S1x1x128.size a) :
    View.readAt (Elt F) M.view (Rect.unit ![0, 0, 0] ![1, 1, 128] h).toLoadRect (hM.unread X) = X := by
  rw [View.readAt_eq_ld, hM.read_unread]
  exact View.ld_unit_zero (by decide) h X

section Walk

variable (q k v g : Vec F S1x2048x128 .bf16) (lg gn : Vec F S1x1x128 .f32)

/-- The state the forward walk has after `n` chunks. -/
def stF : ℕ → Tile F .f32
  | 0 => k0_pay10
  | n + 1 => step (k0_pay6 lg) (k0_pay9 lg) (stF n) (chunkAt k (n * 128)) (chunkAt v (n * 128))

/-- The state the backward walk has after `n` chunks, counted from the last. -/
def stB : ℕ → Tile F .f32
  | 0 => k0_pay10
  | n + 1 => step (k0_pay8 lg) (k0_pay9 lg) (stB n) (chunkAt k ((15 - n) * 128)) (chunkAt v ((15 - n) * 128))

/-- The forward output of chunk `n`. -/
def outF (n : ℕ) : Tile F .f32 :=
  fwd (k0_pay4 lg) (k0_pay5 lg) (stF k v lg n) (chunkAt q (n * 128)) (chunkAt k (n * 128)) (chunkAt v (n * 128))

/-- The backward output of chunk `n`. -/
def outB (n : ℕ) : Tile F .f32 := bwd (k0_pay7 lg) (stB k v lg (15 - n)) (chunkAt q (n * 128))

/-- The finished output of chunk `n`: the direction met second is added to the one met first. -/
def outC (n : ℕ) : Chunk F :=
  fin (if n < 8 then outB q k v lg n else outF q k v lg n) (if n < 8 then outF q k v lg n else outB q k v lg n)
    (chunkAt g (n * 128)) gn

/-- The whole output block: row `r` is row `r mod 128` of chunk `r / 128`. -/
def outAll : Vec F S1x2048x128 .bf16 := fun i =>
  outC q k v g lg gn ((i 1).val / 128) (ix3 0 ⟨(i 1).val % 128, Nat.mod_lt _ (by omega)⟩ (i 2))

/-- The output block read through the rectangle of chunk `n` is that chunk's finished output. -/
theorem outAll_emb (n o : ℕ) (ho : o = n * 128) (h : ∀ a, ![0, o, 0] a + ![1, 128, 128] a ≤ S1x2048x128.size a)
    (x : (Rect.unit (s := S1x2048x128) ![0, o, 0] ![1, 128, 128] h).shape.Idx) :
    outC q k v g lg gn n x = outAll q k v g lg gn ((Rect.unit ![0, o, 0] ![1, 128, 128] h).emb x) := by
  subst ho
  have h2 : (x 1).val < 128 := (x 1).isLt
  have h3 : (x 0).val < 1 := (x 0).isLt
  have e1 : (((Rect.unit (s := S1x2048x128) ![0, n * 128, 0] ![1, 128, 128] h).emb x) 1).val = n * 128 + (x 1).val := Rect.idx_unit_val (s := S1x2048x128) _ _ h x 1
  have e2 : (((Rect.unit (s := S1x2048x128) ![0, n * 128, 0] ![1, 128, 128] h).emb x) 2).val = 0 + (x 2).val := Rect.idx_unit_val (s := S1x2048x128) _ _ h x 2
  unfold outAll
  have e : (((Rect.unit (s := S1x2048x128) ![0, n * 128, 0] ![1, 128, 128] h).emb x) 1).val / 128 = n := by rw [e1]; omega
  rw [e]
  congr 1
  funext a
  refine Fin.ext ?_
  match a with
  | ⟨0, _⟩ => show (x 0).val = 0; omega
  | ⟨1, _⟩ => show (x 1).val = _ % 128; rw [e1]; omega
  | ⟨2, _⟩ => exact (by omega : (x 2).val = 0 + (x 2).val).trans e2.symm

end Walk

/-! ## What the body leaves in its block -/

variable (m : (ℓ : Loc nD τ sig) → Buf (Elt F) ℓ)

set_option maxHeartbeats 4000000 in
set_option backward.isDefEq.respectTransparency false in
/-- What grid point `t` leaves in its output block: the finished outputs of the sixteen chunks of its input blocks. -/
theorem outsAt_eq (c : Dev nD) (t : Fin cfg0.N) :
    outsAt0 m c t = outAll (iblk m c 0 t) (iblk m c 1 t) (iblk m c 2 t) (iblk m c 3 t) (iblk m c 4 t) (iblk m c 5 t) := by
  unfold outsAt0 out0_A_6
  rw [View.read_writes_eq_canon _ _ _ (cover0_A_6 c _ _ _ _ _ _ _ _ _ _ _ _ _ _ _ _ _ _ _ _ _ _ _ _ _)]
  funext y
  have hc := cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) y
  refine View.canon_append_of_piecesOf _ [] _ ?_ y hc
  unfold kernelRun0_A
  dsimp only
  sl_unfold_words
  simp only [readAt_chunk, readAt_row]
  generalize iblk m c 0 t = q
  generalize iblk m c 1 t = k
  generalize iblk m c 2 t = v
  generalize iblk m c 3 t = g
  generalize iblk m c 4 t = lg
  generalize iblk m c 5 t = gn
  simp only [step_forms, fwd_forms, fwd_stored, bwd_forms, bwd_stored, fin_forms]
  simp (decide := true) only [↓View.readCov_skip, ↓View.readCov_cons_toLoadRect]
  have at_ := outAll_emb q k v g lg gn
  exact ⟨at_ 0 0 rfl (by decide), at_ 15 1920 rfl (by decide), at_ 1 128 rfl (by decide), at_ 14 1792 rfl (by decide),
    at_ 2 256 rfl (by decide), at_ 13 1664 rfl (by decide), at_ 3 384 rfl (by decide), at_ 12 1536 rfl (by decide),
    at_ 4 512 rfl (by decide), at_ 11 1408 rfl (by decide), at_ 5 640 rfl (by decide), at_ 10 1280 rfl (by decide),
    at_ 6 768 rfl (by decide), at_ 9 1152 rfl (by decide), at_ 7 896 rfl (by decide), at_ 8 1024 rfl (by decide), trivial⟩

end Cert.Ret
end
-- ==== Proof.Ret.Spec.lean ====
/-
  Retention of one head, as mathematics over the extended reals, and the law that joins its two directions.

  Rows are counted by chunk and by place in the chunk. A direction is the scores inside the chunk, decayed and masked,
  plus the queries against the state the chunks before it leave. The backward direction is the same on the flipped
  rows, its mask strict. `both_eq` says that the two together are one sum with the decay of the distance, and the two
  states, the backward one read on the rows as they are.
-/
module

public import Idealize.ShloMosaic.Lib.Pointwise

@[expose] public section

noncomputable section

namespace Cert.Ret

open Idealize.ShloMosaic

/-- The rows of one head: chunk, place, feature. -/
abbrev Rows := ℕ → Fin 128 → Fin 128 → EReal

/-- The decay over `x` places, of a head whose decay is `exp l`. -/
def dec (l : EReal) (x : ℝ) : EReal := Ideal.exp (l * (x : EReal))

/-- The state after `n` chunks, the key at place `p` decayed by `w p`. -/
def state (l : EReal) (w : Fin 128 → ℝ) (k v : Rows) : ℕ → Fin 128 → Fin 128 → EReal
  | 0 => fun _ _ => 0
  | n + 1 => fun d e => dec l 128 * state l w k v n d e + ∑ p : Fin 128, k n p d * dec l (w p) * v n p e

/-- The scores inside chunk `n`, weighted by `m`, against the values. -/
def intra (m : Fin 128 → Fin 128 → EReal) (q k v : Rows) (n : ℕ) (i e : Fin 128) : EReal :=
  ∑ p : Fin 128, (∑ d : Fin 128, q n i d * k n p d) * m i p * v n p e

/-- The queries of chunk `n`, decayed by `w`, against a state. -/
def cross (l : EReal) (w : Fin 128 → ℝ) (q : Rows) (S : Fin 128 → Fin 128 → EReal) (n : ℕ) (i e : Fin 128) : EReal :=
  ∑ d : Fin 128, q n i d * dec l (w i) * S d e

/-- One direction of the retention, with the weights `m` inside a chunk. -/
def dirOut (l : EReal) (m : Fin 128 → Fin 128 → EReal) (q k v : Rows) (n : ℕ) (i e : Fin 128) : EReal :=
  intra m q k v n i e
    + cross l (fun i => (i : ℝ) + 1) q (state l (fun p => 127 - (p : ℝ)) k v n) n i e

/-- The rows in the opposite order. -/
def flip (x : Rows) : Rows := fun n i d => x (15 - n) i.rev d

/-- The forward weights inside a chunk: a place reads itself and the places before it. -/
def maskF (l : EReal) (i p : Fin 128) : EReal := if p ≤ i then dec l ((i : ℝ) - (p : ℝ)) else 0

/-- The backward weights inside a flipped chunk: a place reads the places before it only. -/
def maskB (l : EReal) (i p : Fin 128) : EReal := if p < i then dec l ((i : ℝ) - (p : ℝ)) else 0

/-- Both directions at one row. -/
def both (l : EReal) (q k v : Rows) (n : ℕ) (i e : Fin 128) : EReal :=
  dirOut l (maskF l) q k v n i e + dirOut l (maskB l) (flip q) (flip k) (flip v) (15 - n) i.rev e

/-- The sum of both directions normalized over the head at feature `j`, scaled by `gn` and gated by `g`. -/
def finish (y : Fin 128 → EReal) (gn g : EReal) (j : Fin 128) : EReal :=
  (y j - Ideal.div (∑ x, y x) (Ideal.ofBits .f32 0x43000000#32))
    * Ideal.rsqrt (Ideal.div (∑ x, (y x - Ideal.div (∑ x, y x) (Ideal.ofBits .f32 0x43000000#32))
        * (y x - Ideal.div (∑ x, y x) (Ideal.ofBits .f32 0x43000000#32))) (Ideal.ofBits .f32 0x43000000#32)
      + Ideal.ofBits .f32 0x358637BD#32) * gn * (g * Ideal.div 1 (1 + Ideal.exp (-g)))

/-! ## Literals -/

/-- The pattern of 128. -/
theorem lit_128 : Ideal.ofBits .f32 0x43000000#32 = ((128 : ℝ) : EReal) := by
  simp [Ideal.ofBits, Ideal.ieee, -EReal.coe_mul]; norm_num

/-- The pattern of 127. -/
theorem lit_127 : Ideal.ofBits .f32 0x42FE0000#32 = ((127 : ℝ) : EReal) := by
  simp [Ideal.ofBits, Ideal.ieee, -EReal.coe_mul]; norm_num

/-- A place read as a float. -/
theorem place_val {n : ℕ} (hn : n < 2 ^ 31) : FloatOps.sitofp (F := Ideal) .f32 (BitVec.ofNat 32 n) = ((n : ℝ) : EReal) := by
  show (((BitVec.ofNat 32 n).toInt : ℝ) : EReal) = _
  rw [show (BitVec.ofNat 32 n).toInt = (n : ℤ) by
    rw [BitVec.toInt_eq_toNat_of_lt (by rw [BitVec.toNat_ofNat]; omega), BitVec.toNat_ofNat]; omega]
  simp

/-- The distance of two places read as a float. -/
theorem dist_val (i j : Fin 128) :
    FloatOps.sitofp (F := Ideal) .f32 (IntOp.absi (IntOp.subi (BitVec.ofNat 32 i.val) (BitVec.ofNat 32 j.val)))
      = ((|(i : ℝ) - (j : ℝ)| : ℝ) : EReal) := by
  have h : ∀ i j : Fin 128, (IntOp.absi (IntOp.subi (BitVec.ofNat 32 i.val) (BitVec.ofNat 32 j.val))).toInt
      = |(i.val : ℤ) - (j.val : ℤ)| := by decide +kernel
  show ((((IntOp.absi (IntOp.subi (BitVec.ofNat 32 i.val) (BitVec.ofNat 32 j.val))).toInt : ℝ)) : EReal) = _
  rw [h]
  push_cast
  rfl

/-! ## The two directions together -/

theorem rev_val (p : Fin 128) : ((p.rev : Fin 128) : ℝ) = 127 - (p : ℝ) := by
  have h : (p.rev : ℕ) + (p : ℕ) = 127 := by rw [Fin.val_rev]; omega
  have : ((p.rev : ℕ) : ℝ) + ((p : ℕ) : ℝ) = 127 := by exact_mod_cast h
  linarith

/-- The state of the flipped rows is the state met walking back: the key at place `p` is decayed by `p`. -/
theorem state_flip (l : EReal) (k v : Rows) (n : ℕ) (d e : Fin 128) :
    state l (fun p => 127 - (p : ℝ)) (flip k) (flip v) n d e
      = state l (fun p => (p : ℝ)) (fun n => k (15 - n)) (fun n => v (15 - n)) n d e := by
  induction n generalizing d e with
  | zero => rfl
  | succ n ih =>
    unfold state
    rw [ih]
    congr 1
    refine Fintype.sum_equiv Fin.revPerm _ _ fun p => ?_
    show k (15 - n) p.rev d * dec l (127 - (p : ℝ)) * v (15 - n) p.rev e = k (15 - n) p.rev d * dec l ((p.rev : Fin 128) : ℝ) * v (15 - n) p.rev e
    rw [rev_val]

/-- The two masked sums inside a chunk are one sum, weighted by the decay of the distance. -/
theorem intra_both (l : EReal) (q k v : Rows) (n : ℕ) (hn : n ≤ 15) (i e : Fin 128) :
    intra (maskF l) q k v n i e + intra (maskB l) (flip q) (flip k) (flip v) (15 - n) i.rev e
      = intra (fun i p => dec l |(i : ℝ) - (p : ℝ)|) q k v n i e := by
  have e15 : 15 - (15 - n) = n := by omega
  have hb : intra (maskB l) (flip q) (flip k) (flip v) (15 - n) i.rev e
      = intra (fun i p => maskB l i.rev p.rev) q k v n i e := by
    unfold intra flip
    rw [e15]
    refine Fintype.sum_equiv Fin.revPerm _ _ fun p => ?_
    simp only [Fin.revPerm_apply, Fin.rev_rev]
  rw [hb]
  unfold intra
  rw [← Finset.sum_add_distrib]
  refine Finset.sum_congr rfl fun p _ => ?_
  unfold maskF maskB
  dsimp only
  by_cases h : p ≤ i
  · have h' : ¬ p.rev < i.rev := by rw [Fin.rev_lt_rev]; exact not_lt.2 h
    have hr : (p : ℝ) ≤ (i : ℝ) := by exact_mod_cast h
    rw [if_pos h, if_neg h', mul_zero, zero_mul, add_zero, abs_of_nonneg (by linarith)]
  · have h' : p.rev < i.rev := by rw [Fin.rev_lt_rev]; exact not_le.1 h
    have hr : (i : ℝ) ≤ (p : ℝ) := by exact_mod_cast (not_le.1 h).le
    rw [if_neg h, if_pos h', mul_zero, zero_mul, zero_add, abs_of_nonpos (by linarith), rev_val, rev_val]
    congr 3
    ring

/-- Both directions at a row: one sum inside the chunk, and the queries against the forward and the backward state. -/
theorem both_eq (l : EReal) (q k v : Rows) (n : ℕ) (hn : n ≤ 15) (i e : Fin 128) :
    both l q k v n i e
      = intra (fun i p => dec l |(i : ℝ) - (p : ℝ)|) q k v n i e
        + cross l (fun i => (i : ℝ) + 1) q (state l (fun p => 127 - (p : ℝ)) k v n) n i e
        + cross l (fun i => 128 - (i : ℝ)) q
            (state l (fun p => (p : ℝ)) (fun n => k (15 - n)) (fun n => v (15 - n)) (15 - n)) n i e := by
  have e15 : 15 - (15 - n) = n := by omega
  have hc : cross l (fun i => (i : ℝ) + 1) (flip q) (state l (fun p => 127 - (p : ℝ)) (flip k) (flip v) (15 - n)) (15 - n) i.rev e
      = cross l (fun i => 128 - (i : ℝ)) q
            (state l (fun p => (p : ℝ)) (fun n => k (15 - n)) (fun n => v (15 - n)) (15 - n)) n i e := by
    unfold cross
    refine Finset.sum_congr rfl fun d _ => ?_
    rw [state_flip]
    unfold flip
    dsimp only
    rw [e15, Fin.rev_rev, rev_val, show (127 - (i : ℝ) + 1) = 128 - (i : ℝ) by ring]
  unfold both dirOut
  rw [hc, add_add_add_comm, intra_both l q k v n hn, add_assoc]

end Cert.Ret
end
-- ==== Proof.Ret.Kernel.lean ====
/-
  The retention kernel's output block over the extended reals: the finished sum of both directions, row by row.
-/
module

public import proofs.«01_k».proof.Proof.Ret.Body
public import proofs.«01_k».proof.Proof.Ret.Spec

@[expose] public section

set_option maxRecDepth 16384

noncomputable section

namespace Cert.Ret

open Cert.KernelIdeal Cert.KernelIdeal.Gen Idealize.ShloMosaic Idealize.ShloMosaic.TcCoe Idealize.SL.Sem

/-! ## The decay tables at an element -/

section Decays

variable (lg : Vec Ideal S1x1x128 .f32) (l : EReal) (hl : ∀ j, lg (ix3 0 0 j) = l) (i j : Fin 128)

include hl

/-- The table of the decays of the distance. -/
theorem dist_apply : k0_pay4 lg (ix2 i j) = dec l |(i : ℝ) - (j : ℝ)| := by
  pointwise [k0_pay4, k0_pay2]
  rw [hl, dist_val]
  rfl

/-- The forward decay of the queries. -/
theorem qF_apply : k0_pay5 lg (ix2 i j) = dec l ((i : ℝ) + 1) := by
  pointwise [k0_pay5, k0_pay3, k0_pay2]
  rw [hl, place_val (by omega), ← EReal.coe_one, ← EReal.coe_add]
  rfl

/-- The forward decay of the keys. -/
theorem kF_apply : k0_pay6 lg (ix2 i j) = dec l (127 - (i : ℝ)) := by
  pointwise [k0_pay6, k0_pay3, k0_pay2]
  rw [hl, place_val (by omega), lit_127, ← EReal.coe_sub]
  rfl

/-- The backward decay of the queries. -/
theorem qB_apply : k0_pay7 lg (ix2 i j) = dec l (128 - (i : ℝ)) := by
  pointwise [k0_pay7, k0_pay3, k0_pay2]
  rw [hl, place_val (by omega), lit_128, ← EReal.coe_sub]
  rfl

/-- The backward decay of the keys. -/
theorem kB_apply : k0_pay8 lg (ix2 i j) = dec l (i : ℝ) := by
  pointwise [k0_pay8, k0_pay3, k0_pay2]
  rw [hl, place_val (by omega)]
  rfl

/-- The decay of a whole chunk. -/
theorem gc_apply : k0_pay9 lg (ix2 0 j) = dec l 128 := by
  pointwise [k0_pay9, k0_pay2]
  rw [hl, lit_128]
  rfl

end Decays

/-! ## The operations of a step at an element -/

section Steps

variable (f : Tile Ideal .bf16) (d r y b : Tile Ideal .f32) (gc : FVec Ideal S1x128 .f32) (q k v g : Chunk Ideal)
  (gn : Vec Ideal S1x1x128 .f32) (i j : Fin 128)

/-- The next state. -/
theorem step_apply : step f gc r k v (ix2 i j)
    = gc (ix2 0 j) * r (ix2 i j) + ∑ p : Fin 128, k (ix3 0 p i) * f (ix2 p i) * v (ix3 0 p j) := by
  pointwise [step, k0_pay13, k0_pay11, k0_pay12]

/-- The backward output. -/
theorem bwd_apply : bwd f r q (ix2 i j) = ∑ p : Fin 128, q (ix3 0 i p) * f (ix2 i p) * r (ix2 p j) := by
  pointwise [bwd, k0_pay14]

/-- The forward output. -/
theorem fwd_apply : fwd d f r q k v (ix2 i j)
    = (∑ p : Fin 128, (∑ e : Fin 128, q (ix3 0 i e) * k (ix3 0 p e)) * d (ix2 i p) * v (ix3 0 p j))
      + ∑ p : Fin 128, q (ix3 0 i p) * f (ix2 i p) * r (ix2 p j) := by
  pointwise [fwd, k0_pay78, k0_pay76, k0_pay77]

/-- The finished output. -/
theorem fin_apply : fin y b g gn (ix3 0 i j)
    = finish (fun x => y (ix2 i x) + b (ix2 i x)) (gn (ix3 0 0 j)) (g (ix3 0 i j)) j := by
  pointwise [fin, k0_pay86, k0_pay85]
  unfold finish
  rw [zero_sub]

/-- The state a walk starts with. -/
theorem zero_apply : (k0_pay10 : Tile Ideal .f32) (ix2 i j) = 0 := by
  pointwise [k0_pay10]

end Steps

/-! ## The walk at an element -/

/-- The rows of a block, by chunk and place. -/
def rowsOf (X : Vec Ideal S1x2048x128 .bf16) : Rows := fun n p d =>
  X (ix3 0 ⟨(n * 128 + p.val) % 2048, Nat.mod_lt _ (by omega)⟩ d)

theorem chunk_apply (X : Vec Ideal S1x2048x128 .bf16) (n : ℕ) (p d : Fin 128) :
    chunkAt X (n * 128) (ix3 0 p d) = rowsOf X n p d := rfl

section Walk

variable (q k v g : Vec Ideal S1x2048x128 .bf16) (lg gn : Vec Ideal S1x1x128 .f32) (l : EReal)
  (hl : ∀ j, lg (ix3 0 0 j) = l)

include hl

/-- The forward states. -/
theorem stF_apply (n : ℕ) (d e : Fin 128) :
    stF k v lg n (ix2 d e) = state l (fun p => 127 - (p : ℝ)) (rowsOf k) (rowsOf v) n d e := by
  induction n generalizing d e with
  | zero => exact zero_apply d e
  | succ n ih =>
    unfold stF state
    rw [step_apply, gc_apply lg l hl, ih]
    simp only [chunk_apply, kF_apply lg l hl]

/-- The backward states. -/
theorem stB_apply (n : ℕ) (d e : Fin 128) :
    stB k v lg n (ix2 d e)
      = state l (fun p => (p : ℝ)) (fun n => rowsOf k (15 - n)) (fun n => rowsOf v (15 - n)) n d e := by
  induction n generalizing d e with
  | zero => exact zero_apply d e
  | succ n ih =>
    unfold stB state
    rw [step_apply, gc_apply lg l hl, ih]
    simp only [chunk_apply, kB_apply lg l hl]

/-- The sum of a chunk's two outputs is both directions at its rows. -/
theorem out_both (n : ℕ) (hn : n ≤ 15) (i e : Fin 128) :
    outF q k v lg n (ix2 i e) + outB q k v lg n (ix2 i e) = both l (rowsOf q) (rowsOf k) (rowsOf v) n i e := by
  rw [both_eq l _ _ _ n hn]
  unfold outF outB intra cross
  rw [fwd_apply, bwd_apply]
  simp only [chunk_apply, dist_apply lg l hl, qF_apply lg l hl, qB_apply lg l hl, stF_apply k v lg l hl,
    stB_apply k v lg l hl]

/-- The output block at row `r` and feature `j`: the finished sum of both directions. -/
theorem outAll_apply (r : Fin 2048) (j : Fin 128) :
    outAll q k v g lg gn (ix3 0 r j)
      = finish (both l (rowsOf q) (rowsOf k) (rowsOf v) (r.val / 128) ⟨r.val % 128, Nat.mod_lt _ (by omega)⟩)
          (gn (ix3 0 0 j)) (g (ix3 0 r j)) j := by
  have hi : r.val < 2048 := r.isLt
  have hg : chunkAt g (r.val / 128 * 128) (ix3 0 ⟨r.val % 128, Nat.mod_lt _ (by omega)⟩ j) = g (ix3 0 r j) := by
    rw [chunk_apply]
    unfold rowsOf
    congr 2
    refine Fin.ext ?_
    show (r.val / 128 * 128 + r.val % 128) % 2048 = r.val
    omega
  show outC q k v g lg gn (r.val / 128) (ix3 0 ⟨r.val % 128, Nat.mod_lt _ (by omega)⟩ j) = _
  unfold outC
  rw [fin_apply, hg]
  congr 1
  funext x
  rw [← out_both q k v lg l hl _ (by omega)]
  split
  · exact add_comm _ _
  · rfl

end Walk

end Cert.Ret
end
-- ==== Proof.Ret.Ref.lean ====
/-
  The reference's retention read at an element: both directions of `Spec`, finished.
-/
module

public import proofs.«01_k».proof.Proof.Gen.ReferenceIdeal.Read
public import proofs.«01_k».proof.Proof.Ret.Spec
public import Idealize.ShloMosaic.Lib.Pipeline.Value
public import Idealize.ShloMosaic.Lib.Pipeline.ValueKit.Tiles

@[expose] public section

set_option maxRecDepth 16384

noncomputable section

namespace Cert.Ret.Ref

open Cert.ReferenceIdeal Cert.ReferenceIdeal.Gen Cert.ReferenceIdeal.Read Idealize.ShloMosaic Idealize.ShloMosaic.TcCoe
open Idealize.SL.Sem

/-- The projected columns and the scale the mixer reads. -/
abbrev U := (⟨S8x2048x6656, .bf16⟩ : BufTy).Contents (Elt Ideal)

variable (x : U)

/-- Column block `c` of head `h` of batch `b`, by chunk and place. -/
def cols (x : U) (c : Fin 4) (b : Fin 8) (h : Fin 4) : Rows := fun n p d =>
  x (ix3 b ⟨(n * 128 + p.val) % 2048, Nat.mod_lt _ (by omega)⟩ ⟨2048 + 512 * c.val + 128 * h.val + d.val, by omega⟩)

/-- The logarithm of head `h`'s decay. -/
def lgv (h : Fin 4) : EReal := val_main_v12 (F := Ideal) (ix1 h)

theorem cols_at (c : Fin 4) (b : Fin 8) (h : Fin 4) (n : ℕ) (hn : n < 16) (p d : Fin 128) (y : S8x2048x6656.Idx)
    (h0 : (y 0).val = b.val) (h1 : (y 1).val = n * 128 + p.val) (h2 : (y 2).val = 2048 + 512 * c.val + 128 * h.val + d.val) :
    x y = cols x c b h n p d := by
  unfold cols
  congr 1
  funext a
  refine Fin.ext ?_
  match a with
  | ⟨0, _⟩ => exact h0
  | ⟨1, _⟩ => exact h1.trans (Nat.mod_eq_of_lt (by omega)).symm
  | ⟨2, _⟩ => exact h2

section Reads

variable (b : Fin 8) (h : Fin 4) (n : Fin 16) (p d : Fin 128)

/-- The queries, keys and values of the forward direction. -/
theorem rows_apply :
    val_main_v17 x (ix5 b h n p d) = cols x 0 b h n p d ∧ val_main_v19 x (ix5 b h n p d) = cols x 1 b h n p d
      ∧ val_main_v21 x (ix5 b h n p d) = cols x 2 b h n p d := by
  refine ⟨?_, ?_, ?_⟩
  · pointwise [val_main_v17, val_main_v16, val_main_v13, val_main_v1, val_main_v0]
    exact cols_at x 0 b h n n.isLt p d _ rfl rfl (by show 2048 + (h.val * 128 + d.val) = 2048 + 512 * 0 + 128 * h.val + d.val; omega)
  · pointwise [val_main_v19, val_main_v18, val_main_v14, val_main_v2, val_main_v0]
    exact cols_at x 1 b h n n.isLt p d _ rfl rfl (by show 2560 + (h.val * 128 + d.val) = 2048 + 512 * 1 + 128 * h.val + d.val; omega)
  · pointwise [val_main_v21, val_main_v20, val_main_v15, val_main_v3, val_main_v0]
    exact cols_at x 2 b h n n.isLt p d _ rfl rfl (by show 3072 + (h.val * 128 + d.val) = 2048 + 512 * 2 + 128 * h.val + d.val; omega)

/-- Those of the backward direction are the same rows in the opposite order. -/
theorem rows_flipped :
    val_main_v179 x (ix5 b h n p d) = flip (cols x 0 b h) n p d
      ∧ val_main_v181 x (ix5 b h n p d) = flip (cols x 1 b h) n p d
      ∧ val_main_v183 x (ix5 b h n p d) = flip (cols x 2 b h) n p d := by
  have e1 : (p.rev : ℕ) = 127 - p.val := by rw [Fin.val_rev]; omega
  have e : (⟨n.val * 128 + p.val, by omega⟩ : Fin 2048).rev.val = (15 - n.val) * 128 + p.rev.val := by
    rw [Fin.val_rev, e1]; show 2048 - (n.val * 128 + p.val + 1) = _; omega
  refine ⟨?_, ?_, ?_⟩
  · pointwise [val_main_v179, val_main_v178, val_main_v175, val_main_v13, val_main_v1, val_main_v0]
    exact cols_at x 0 b h (15 - n) (by omega) p.rev d _ rfl e (by show 2048 + (h.val * 128 + d.val) = 2048 + 512 * 0 + 128 * h.val + d.val; omega)
  · pointwise [val_main_v181, val_main_v180, val_main_v176, val_main_v14, val_main_v2, val_main_v0]
    exact cols_at x 1 b h (15 - n) (by omega) p.rev d _ rfl e (by show 2560 + (h.val * 128 + d.val) = 2048 + 512 * 1 + 128 * h.val + d.val; omega)
  · pointwise [val_main_v183, val_main_v182, val_main_v177, val_main_v15, val_main_v3, val_main_v0]
    exact cols_at x 2 b h (15 - n) (by omega) p.rev d _ rfl e (by show 3072 + (h.val * 128 + d.val) = 2048 + 512 * 2 + 128 * h.val + d.val; omega)

end Reads

section Decays

variable (b : Fin 8) (h : Fin 4) (n : Fin 16) (i p d : Fin 128)

/-- The forward weights inside a chunk. -/
theorem mF_apply : val_main_v39 (F := Ideal) (ix3 h i p) = maskF (lgv h) i p := by
  pointwise [val_main_v39, val_main_v38, val_main_v37, val_main_v36, val_main_v35, val_main_v34, val_main_v33, val_main_v32,
    val_main_v31, val_main_v29, val_main_v28, val_main_v27, val_main_v26, val_main_v25, val_main_v24, val_main_v23, val_main_v22,
    val_main_call0_v1, val_main_call0_v2, val_main_call0_v0, val_main_v30, val_main_cst_2, val_main_cst_3, val_main_cst_4]
  rw [place_val (by omega), place_val (by omega), ← EReal.coe_sub]
  unfold maskF
  by_cases hp : p ≤ i
  · have hr : (p : ℝ) ≤ (i : ℝ) := by exact_mod_cast hp
    have h0 : (0 : EReal) ≤ (((i : ℝ) - (p : ℝ) : ℝ) : EReal) := by exact_mod_cast sub_nonneg.2 hr
    rw [if_pos hp, if_pos h0, max_eq_left h0]
    rfl
  · have hr : (i : ℝ) < (p : ℝ) := by exact_mod_cast not_le.1 hp
    have h0 : ¬ (0 : EReal) ≤ (((i : ℝ) - (p : ℝ) : ℝ) : EReal) := not_le.2 (by exact_mod_cast sub_neg.2 hr)
    rw [if_neg hp, if_neg h0]
    exact Ideal.ofBits_zero_f32

/-- The backward weights inside a chunk. -/
theorem mB_apply : val_main_v201 (F := Ideal) (ix3 h i p) = maskB (lgv h) i p := by
  pointwise [val_main_v201, val_main_v200, val_main_v199, val_main_v198, val_main_v197, val_main_v196, val_main_v195, val_main_v194,
    val_main_v193, val_main_v191, val_main_v190, val_main_v189, val_main_v188, val_main_v187, val_main_v186, val_main_v185, val_main_v184,
    val_main_call4_v1, val_main_call4_v2, val_main_call4_v0, val_main_v192, val_main_cst_9, val_main_cst_10, val_main_cst_11]
  rw [place_val (by omega), place_val (by omega), ← EReal.coe_sub]
  unfold maskB
  by_cases hp : p < i
  · have hr : (p : ℝ) < (i : ℝ) := by exact_mod_cast hp
    have h0 : (0 : EReal) < (((i : ℝ) - (p : ℝ) : ℝ) : EReal) := by exact_mod_cast sub_pos.2 hr
    rw [if_pos hp, if_pos h0, max_eq_left h0.le]
    rfl
  · have hr : (i : ℝ) ≤ (p : ℝ) := by exact_mod_cast not_lt.1 hp
    have h0 : ¬ (0 : EReal) < (((i : ℝ) - (p : ℝ) : ℝ) : EReal) := not_lt.2 (by exact_mod_cast sub_nonpos.2 hr)
    rw [if_neg hp, if_neg h0]
    exact Ideal.ofBits_zero_f32

/-- The decay of the keys, in either direction. -/
theorem kdec_apply : val_main_v54 (F := Ideal) (ix5 b h n p d) = dec (lgv h) (127 - (p : ℝ))
    ∧ val_main_v216 (F := Ideal) (ix5 b h n p d) = dec (lgv h) (127 - (p : ℝ)) := by
  constructor
  · pointwise [val_main_v54, val_main_v53, val_main_v52, val_main_v51, val_main_v50, val_main_v49, val_main_v48, val_main_v47,
      val_main_v46, val_main_v45, val_main_v22, val_main_cst_5]
    rw [place_val (by omega), lit_127, ← EReal.coe_sub]
    rfl
  · pointwise [val_main_v216, val_main_v215, val_main_v214, val_main_v213, val_main_v212, val_main_v211, val_main_v210,
      val_main_v209, val_main_v208, val_main_v207, val_main_v184, val_main_cst_12]
    rw [place_val (by omega), lit_127, ← EReal.coe_sub]
    rfl

/-- The decay of the queries, in either direction. -/
theorem qdec_apply : val_main_v169 (F := Ideal) (ix5 b h n p d) = dec (lgv h) ((p : ℝ) + 1)
    ∧ val_main_v331 (F := Ideal) (ix5 b h n p d) = dec (lgv h) ((p : ℝ) + 1) := by
  constructor
  · pointwise [val_main_v169, val_main_v168, val_main_v167, val_main_v166, val_main_v165, val_main_v164, val_main_v163,
      val_main_v162, val_main_v161, val_main_v45, val_main_v22, val_main_cst_8]
    rw [place_val (by omega), ← EReal.coe_one, ← EReal.coe_add]
    rfl
  · pointwise [val_main_v331, val_main_v330, val_main_v329, val_main_v328, val_main_v327, val_main_v326, val_main_v325,
      val_main_v324, val_main_v323, val_main_v207, val_main_v184, val_main_cst_15]
    rw [place_val (by omega), ← EReal.coe_one, ← EReal.coe_add]
    rfl

/-- The decay of a whole chunk, in either direction. -/
theorem gdec_apply : val_main_v60 (F := Ideal) (ix4 0 h 0 0) = dec (lgv h) 128
    ∧ val_main_v222 (F := Ideal) (ix4 0 h 0 0) = dec (lgv h) 128 := by
  constructor
  · pointwise [val_main_v60, val_main_v59, val_main_v58, val_main_v57, val_main_cst_6]
    rw [lit_128]
    rfl
  · pointwise [val_main_v222, val_main_v221, val_main_v220, val_main_v219, val_main_cst_13]
    rw [lit_128]
    rfl

end Decays

/-! ## The states -/

/-- The next state over all batches and heads: the decayed state plus chunk `n`'s table. -/
def next (gc : FVec Ideal S1x4x1x1 .f32) (y : FVec Ideal S16x8x4x128x128 .f32) (n : ℕ)
    (hs : S16x8x4x128x128.Slices ![n, 0, 0, 0, 0] S1x8x4x128x128) (r : FVec Ideal S8x4x128x128 .f32) : FVec Ideal S8x4x128x128 .f32 :=
  addf (mulf (broadcastInDim S8x4x128x128 ![0, 1, 2, 3] bcast_S1x4x1x1_S8x4x128x128_0_1_2_3 gc) r)
    (shapeCast S8x4x128x128 (extractStridedSlice S1x8x4x128x128 ![n, 0, 0, 0, 0] y hs) shapeCasts_S1x8x4x128x128_S8x4x128x128)

theorem next_apply (gc : FVec Ideal S1x4x1x1 .f32) (y : FVec Ideal S16x8x4x128x128 .f32) (n : ℕ) (hn : n < 16)
    (hs : S16x8x4x128x128.Slices ![n, 0, 0, 0, 0] S1x8x4x128x128) (r : FVec Ideal S8x4x128x128 .f32)
    (b : Fin 8) (h : Fin 4) (d e : Fin 128) :
    next gc y n hs r (ix4 b h d e) = gc (ix4 0 h 0 0) * r (ix4 b h d e) + y (ix5 ⟨n, hn⟩ b h d e) := by
  pointwise [next]

/-- Sixteen arrays stacked along a new first axis. -/
def stacked (rs : Fin 16 → FVec Ideal S8x4x128x128 .f32) : FVec Ideal S16x8x4x128x128 .f32 :=
  concatenate S16x8x4x128x128 0
    (List.ofFn fun n : Fin 16 => (⟨S1x8x4x128x128, broadcastInDim S1x8x4x128x128 ![1, 2, 3, 4] bcast_S8x4x128x128_S1x8x4x128x128_1_2_3_4 (rs n)⟩ : (s : Shape) × (s.Idx → EReal)))
    concatenates_S1x8x4x128x128_S1x8x4x128x128_S1x8x4x128x128_S1x8x4x128x128_S1x8x4x128x128_S1x8x4x128x128_S1x8x4x128x128_S1x8x4x128x128_S1x8x4x128x128_S1x8x4x128x128_S1x8x4x128x128_S1x8x4x128x128_S1x8x4x128x128_S1x8x4x128x128_S1x8x4x128x128_S1x8x4x128x128_S16x8x4x128x128_d0

theorem stacked_apply (rs : Fin 16 → FVec Ideal S8x4x128x128 .f32) (n : Fin 16) (b : Fin 8) (h : Fin 4) (d e : Fin 128) :
    stacked rs (ix5 n b h d e) = rs n (ix4 b h d e) := by
  have hl := concatenate_ofFn_unit_apply (t := S16x8x4x128x128) (s₁ := S1x8x4x128x128) 0
    (fun n : Fin 16 => broadcastInDim S1x8x4x128x128 ![1, 2, 3, 4] bcast_S8x4x128x128_S1x8x4x128x128_1_2_3_4 (rs n))
    concatenates_S1x8x4x128x128_S1x8x4x128x128_S1x8x4x128x128_S1x8x4x128x128_S1x8x4x128x128_S1x8x4x128x128_S1x8x4x128x128_S1x8x4x128x128_S1x8x4x128x128_S1x8x4x128x128_S1x8x4x128x128_S1x8x4x128x128_S1x8x4x128x128_S1x8x4x128x128_S1x8x4x128x128_S1x8x4x128x128_S16x8x4x128x128_d0
    rfl rfl (ix5 n b h d e) n rfl (ix5 0 b h d e) (fun a ha => by
      match a with
      | ⟨0, _⟩ => exact absurd rfl ha
      | ⟨1, _⟩ => rfl
      | ⟨2, _⟩ => rfl
      | ⟨3, _⟩ => rfl
      | ⟨4, _⟩ => rfl)
  refine hl.trans ?_
  pointwise

/-- Arrays that start at zero and follow `next`, with the chunks' tables of `k` and `v`, are the states. -/
theorem states_apply (gc : FVec Ideal S1x4x1x1 .f32) (y : FVec Ideal S16x8x4x128x128 .f32) (k v : Fin 8 → Fin 4 → Rows)
    (rs : Fin 16 → FVec Ideal S8x4x128x128 .f32) (h0 : ∀ j, rs 0 j = 0)
    (hrs : ∀ (n : ℕ) (hn : n < 15), ∃ hs, rs ⟨n + 1, by omega⟩ = next gc y n hs (rs ⟨n, by omega⟩))
    (hg : ∀ h, gc (ix4 0 h 0 0) = dec (lgv h) 128)
    (hy : ∀ (n : Fin 16) b h d e, y (ix5 n b h d e)
      = ∑ p : Fin 128, k b h n p d * dec (lgv h) (127 - (p : ℝ)) * v b h n p e)
    (n : ℕ) (hn : n < 16) (b : Fin 8) (h : Fin 4) (d e : Fin 128) :
    rs ⟨n, hn⟩ (ix4 b h d e) = state (lgv h) (fun p => 127 - (p : ℝ)) (k b h) (v b h) n d e := by
  induction n generalizing d e with
  | zero => exact h0 _
  | succ n ih =>
    obtain ⟨hs, hr⟩ := hrs n (by omega)
    rw [hr, next_apply gc y n (by omega), ih (by omega), hg, hy]
    rfl

/-- The forward states before each chunk. -/
def rsF (x : U) : Fin 16 → FVec Ideal S8x4x128x128 .f32 :=
  ![val_main_v63 (F := Ideal), val_main_v68 x, val_main_v73 x, val_main_v78 x, val_main_v83 x, val_main_v88 x,
    val_main_v93 x, val_main_v98 x, val_main_v103 x, val_main_v108 x, val_main_v113 x, val_main_v118 x, val_main_v123 x,
    val_main_v128 x, val_main_v133 x, val_main_v138 x]

/-- The backward states before each flipped chunk. -/
def rsB (x : U) : Fin 16 → FVec Ideal S8x4x128x128 .f32 :=
  ![val_main_v225 (F := Ideal), val_main_v230 x, val_main_v235 x, val_main_v240 x, val_main_v245 x, val_main_v250 x,
    val_main_v255 x, val_main_v260 x, val_main_v265 x, val_main_v270 x, val_main_v275 x, val_main_v280 x, val_main_v285 x,
    val_main_v290 x, val_main_v295 x, val_main_v300 x]

/-- The chunks' tables, in either direction. -/
theorem table_apply (n : Fin 16) (b : Fin 8) (h : Fin 4) (d e : Fin 128) :
    val_main_v56 x (ix5 n b h d e)
        = ∑ p : Fin 128, cols x 1 b h n p d * dec (lgv h) (127 - (p : ℝ)) * cols x 2 b h n p e
      ∧ val_main_v218 x (ix5 n b h d e)
        = ∑ p : Fin 128, flip (cols x 1 b h) n p d * dec (lgv h) (127 - (p : ℝ)) * flip (cols x 2 b h) n p e := by
  constructor
  · pointwise [val_main_v56, val_main_v55]
    simp only [rows_apply, kdec_apply]
  · pointwise [val_main_v218, val_main_v217]
    simp only [rows_flipped, kdec_apply]

/-- The stacked states of the forward direction. -/
theorem prevF_apply (n : Fin 16) (b : Fin 8) (h : Fin 4) (d e : Fin 128) :
    val_main_v160 x (ix5 n b h d e)
      = state (lgv h) (fun p => 127 - (p : ℝ)) (cols x 1 b h) (cols x 2 b h) n d e := by
  rw [show val_main_v160 x = stacked (rsF x) from rfl, stacked_apply]
  exact states_apply (val_main_v60 (F := Ideal)) (val_main_v56 x) (cols x 1) (cols x 2) (rsF x) (fun j => Ideal.ofBits_zero_f32)
    (fun n hn => by interval_cases n <;> exact ⟨_, rfl⟩) (fun h => (gdec_apply h).1) (fun n b h d e => (table_apply x n b h d e).1)
    n n.isLt b h d e

/-- The stacked states of the backward direction. -/
theorem prevB_apply (n : Fin 16) (b : Fin 8) (h : Fin 4) (d e : Fin 128) :
    val_main_v322 x (ix5 n b h d e)
      = state (lgv h) (fun p => 127 - (p : ℝ)) (flip (cols x 1 b h)) (flip (cols x 2 b h)) n d e := by
  rw [show val_main_v322 x = stacked (rsB x) from rfl, stacked_apply]
  exact states_apply (val_main_v222 (F := Ideal)) (val_main_v218 x) (fun b h => flip (cols x 1 b h)) (fun b h => flip (cols x 2 b h))
    (rsB x) (fun j => Ideal.ofBits_zero_f32) (fun n hn => by interval_cases n <;> exact ⟨_, rfl⟩) (fun h => (gdec_apply h).2)
    (fun n b h d e => (table_apply x n b h d e).2) n n.isLt b h d e

/-! ## The result -/

/-- The forward direction. -/
theorem outF_apply (b : Fin 8) (h : Fin 4) (n : Fin 16) (i e : Fin 128) :
    val_main_v172 x (ix5 b h n i e)
      = dirOut (lgv h) (maskF (lgv h)) (cols x 0 b h) (cols x 1 b h) (cols x 2 b h) n i e := by
  pointwise [val_main_v172, val_main_v171, val_main_v170, val_main_v44, val_main_v43, val_main_v42, val_main_v41, val_main_v40]
  simp only [rows_apply, qdec_apply, mF_apply, prevF_apply]
  rfl

/-- The backward direction, on the flipped rows. -/
theorem outB_apply (b : Fin 8) (h : Fin 4) (n : Fin 16) (i e : Fin 128) :
    val_main_v334 x (ix5 b h n i e)
      = dirOut (lgv h) (maskB (lgv h)) (flip (cols x 0 b h)) (flip (cols x 1 b h)) (flip (cols x 2 b h)) n i e := by
  pointwise [val_main_v334, val_main_v333, val_main_v332, val_main_v206, val_main_v205, val_main_v204, val_main_v203, val_main_v202]
  simp only [rows_flipped, qdec_apply, mB_apply, prevB_apply]
  rfl

/-- The sum of both directions at row `r` of head `h`. -/
theorem sum_apply (b : Fin 8) (r : Fin 2048) (h : Fin 4) (e : Fin 128) :
    val_main_v338 x (ix4 b r h e)
      = both (lgv h) (cols x 0 b h) (cols x 1 b h) (cols x 2 b h) (r.val / 128) ⟨r.val % 128, Nat.mod_lt _ (by omega)⟩ e := by
  pointwise [val_main_v338, val_main_v174, val_main_v173, val_main_v337, val_main_v336, val_main_v335]
  have hr : (⟨r.rev.val / 128, by omega⟩ : Fin 16) = ⟨15 - r.val / 128, by omega⟩ := Fin.ext (by
    show r.rev.val / 128 = 15 - r.val / 128
    rw [Fin.val_rev]; omega)
  have hp : (⟨r.rev.val % 128, Nat.mod_lt _ (by omega)⟩ : Fin 128) = (⟨r.val % 128, Nat.mod_lt _ (by omega)⟩ : Fin 128).rev :=
    Fin.ext (by
      rw [Fin.val_rev]
      show r.rev.val % 128 = 128 - (r.val % 128 + 1)
      rw [Fin.val_rev]; omega)
  show val_main_v172 x (ix5 b h ⟨r.val / 128, by omega⟩ ⟨r.val % 128, Nat.mod_lt _ (by omega)⟩ e)
      + val_main_v334 x (ix5 b h ⟨r.rev.val / 128, by omega⟩ ⟨r.rev.val % 128, Nat.mod_lt _ (by omega)⟩ e) = _
  rw [hr, hp, outF_apply, outB_apply]
  rfl

/-- The reference's result. -/
theorem result_apply (w : (⟨S512, .f32⟩ : BufTy).Contents (Elt Ideal)) (b : Fin 8) (r : Fin 2048) (h : Fin 4) (j : Fin 128) :
    val_main_v361 x w (ix3 b r ⟨h.val * 128 + j.val, by omega⟩)
      = finish (both (lgv h) (cols x 0 b h) (cols x 1 b h) (cols x 2 b h) (r.val / 128) ⟨r.val % 128, Nat.mod_lt _ (by omega)⟩)
          (w (ix1 ⟨h.val * 128 + j.val, by omega⟩)) (x (ix3 b r ⟨3584 + (h.val * 128 + j.val), by omega⟩)) j := by
  pointwise [val_main_v361, val_main_v360, val_main_v359, val_main_v358, val_main_v357, val_main_v356, val_main_v355, val_main_v354, val_main_v353, val_main_v352, val_main_v351, val_main_v350, val_main_v349, val_main_v348, val_main_v347, val_main_v346, val_main_v345, val_main_v344, val_main_v343, val_main_v342, val_main_v341, val_main_v340, val_main_v339, val_main_v4, val_main_v0,
    val_main_call6_v5, val_main_call6_v4, val_main_call6_v3, val_main_call6_v2, val_main_call6_v1, val_main_call6_v0,
    val_main_call6_cst, val_main_call6_cst_0, val_main_cst_16, val_main_cst_17, val_main_cst_18, val_main_cst_19, val_main_cst_20]
  simp only [sum_apply]
  rfl

end Cert.Ret.Ref
end
-- ==== Proof.Ret.Launch.lean ====
/-
  The retention kernel's result array, read at an element: what the blocks of one grid point hold of the arguments, what
  that point writes, and the two programs' results compared.
-/
module

public import proofs.«01_k».proof.Defs
public import proofs.«01_k».proof.Proof.Ret.Kernel
public import proofs.«01_k».proof.Proof.Ret.Ref
public import proofs.«01_k».proof.Proof.Gen.ReferenceIdeal.Run
public import Idealize.ShloMosaic.Lib.StableHlo.ReadAt
public import Idealize.ShloMosaic.Lib.Claim
public import Idealize.ShloMosaic.Lib.Quiescent

@[expose] public section

set_option maxRecDepth 16384

noncomputable section

namespace Cert.Ret

open Cert.KernelIdeal Cert.KernelIdeal.Gen Idealize.ShloMosaic Idealize.ShloMosaic.TcCoe Idealize.SL.Sem

/-- The grid point of batch `b` and head `h`. -/
def pt (b : Fin 8) (h : Fin 4) : Fin cfg0.N := ⟨b.val * 4 + h.val, by
  have e : cfg0.N = 32 := N_0
  omega⟩

/-- The four column windows sit at their head's block of 128 columns, 16, 20, 24 and 28 blocks in; the decay and the
    scale at their head's row; the result at its batch and head. -/
theorem places : ∀ t : Fin cfg0.N,
    (win0_0.index t (0 : Fin 3) = t.val / 4 ∧ win0_0.index t (1 : Fin 3) = 0 ∧ win0_0.index t (2 : Fin 3) = 16 + t.val % 4)
    ∧ (win0_1.index t (0 : Fin 3) = t.val / 4 ∧ win0_1.index t (1 : Fin 3) = 0 ∧ win0_1.index t (2 : Fin 3) = 20 + t.val % 4)
    ∧ (win0_2.index t (0 : Fin 3) = t.val / 4 ∧ win0_2.index t (1 : Fin 3) = 0 ∧ win0_2.index t (2 : Fin 3) = 24 + t.val % 4)
    ∧ (win0_3.index t (0 : Fin 3) = t.val / 4 ∧ win0_3.index t (1 : Fin 3) = 0 ∧ win0_3.index t (2 : Fin 3) = 28 + t.val % 4)
    ∧ (win0_4.index t (0 : Fin 3) = t.val % 4 ∧ win0_4.index t (1 : Fin 3) = 0 ∧ win0_4.index t (2 : Fin 3) = 0)
    ∧ (win0_5.index t (0 : Fin 3) = t.val % 4 ∧ win0_5.index t (1 : Fin 3) = 0 ∧ win0_5.index t (2 : Fin 3) = 0)
    ∧ (win0_6.index t (0 : Fin 3) = t.val / 4 ∧ win0_6.index t (1 : Fin 3) = 0 ∧ win0_6.index t (2 : Fin 3) = t.val % 4) :=
  (by decide +kernel : ∀ t : Fin grid0.N, _)

variable (m : (ℓ : Loc nD τ sig) → Buf (Elt Ideal) ℓ) (c : Dev nD)

/-- The projected columns the launch finds. -/
abbrev argU : Ref.U := m ((c : Thread nD τ).loc main_arg0)

/-- The scale the launch finds. -/
abbrev argG : (⟨S512, .f32⟩ : BufTy).Contents (Elt Ideal) := m ((c : Thread nD τ).loc main_arg1)

section Blocks

variable (b : Fin 8) (h : Fin 4) (r : Fin 2048) (j : Fin 128)

theorem pt_div : (pt b h).val / 4 = b.val := by show (b.val * 4 + h.val) / 4 = b.val; omega
theorem pt_mod : (pt b h).val % 4 = h.val := by show (b.val * 4 + h.val) % 4 = h.val; omega

/-- A column block at a row and a lane is the argument at that batch, that row and that head's lane. -/
theorem block_cols :
    iblk m c 0 (pt b h) (ix3 0 r j) = argU m c (ix3 b r ⟨2048 + 128 * h.val + j.val, by omega⟩)
    ∧ iblk m c 1 (pt b h) (ix3 0 r j) = argU m c (ix3 b r ⟨2560 + 128 * h.val + j.val, by omega⟩)
    ∧ iblk m c 2 (pt b h) (ix3 0 r j) = argU m c (ix3 b r ⟨3072 + 128 * h.val + j.val, by omega⟩)
    ∧ iblk m c 3 (pt b h) (ix3 0 r j) = argU m c (ix3 b r ⟨3584 + 128 * h.val + j.val, by omega⟩) := by
  obtain ⟨⟨a0, a1, a2⟩, ⟨b0, b1, b2⟩, ⟨c0, c1, c2⟩, ⟨d0, d1, d2⟩, -⟩ := places (pt b h)
  rw [pt_div b h] at a0 b0 c0 d0
  rw [pt_mod b h] at a2 b2 c2 d2
  refine ⟨?_, ?_, ?_, ?_⟩
  · show V m c main_arg0 _ = _
    rw [V_main_arg0]
    refine congrArg (argU m c) (funext fun a => Fin.ext ?_)
    match a with
    | ⟨0, _⟩ => show win0_0.index (pt b h) (0 : Fin 3) * 1 + 1 * 0 = b.val; omega
    | ⟨1, _⟩ => show win0_0.index (pt b h) (1 : Fin 3) * 2048 + 1 * r.val = r.val; omega
    | ⟨2, _⟩ => show win0_0.index (pt b h) (2 : Fin 3) * 128 + 1 * j.val = 2048 + 128 * h.val + j.val; omega
  · show V m c main_arg0 _ = _
    rw [V_main_arg0]
    refine congrArg (argU m c) (funext fun a => Fin.ext ?_)
    match a with
    | ⟨0, _⟩ => show win0_1.index (pt b h) (0 : Fin 3) * 1 + 1 * 0 = b.val; omega
    | ⟨1, _⟩ => show win0_1.index (pt b h) (1 : Fin 3) * 2048 + 1 * r.val = r.val; omega
    | ⟨2, _⟩ => show win0_1.index (pt b h) (2 : Fin 3) * 128 + 1 * j.val = 2560 + 128 * h.val + j.val; omega
  · show V m c main_arg0 _ = _
    rw [V_main_arg0]
    refine congrArg (argU m c) (funext fun a => Fin.ext ?_)
    match a with
    | ⟨0, _⟩ => show win0_2.index (pt b h) (0 : Fin 3) * 1 + 1 * 0 = b.val; omega
    | ⟨1, _⟩ => show win0_2.index (pt b h) (1 : Fin 3) * 2048 + 1 * r.val = r.val; omega
    | ⟨2, _⟩ => show win0_2.index (pt b h) (2 : Fin 3) * 128 + 1 * j.val = 3072 + 128 * h.val + j.val; omega
  · show V m c main_arg0 _ = _
    rw [V_main_arg0]
    refine congrArg (argU m c) (funext fun a => Fin.ext ?_)
    match a with
    | ⟨0, _⟩ => show win0_3.index (pt b h) (0 : Fin 3) * 1 + 1 * 0 = b.val; omega
    | ⟨1, _⟩ => show win0_3.index (pt b h) (1 : Fin 3) * 2048 + 1 * r.val = r.val; omega
    | ⟨2, _⟩ => show win0_3.index (pt b h) (2 : Fin 3) * 128 + 1 * j.val = 3584 + 128 * h.val + j.val; omega

/-- The decay's buffer holds each head's logarithm in every lane: the reference's own. -/
theorem decay_apply : V m c main_v9 (ix3 h 0 j) = Ref.lgv h := by
  unfold V Ref.lgv
  after_reads_at
  pointwise [Cert.ReferenceIdeal.Read.val_main_v12, Cert.ReferenceIdeal.Read.val_main_v11, Cert.ReferenceIdeal.Read.val_main_v10,
    Cert.ReferenceIdeal.Read.val_main_v9, Cert.ReferenceIdeal.Read.val_main_v8, Cert.ReferenceIdeal.Read.val_main_v7,
    Cert.ReferenceIdeal.Read.val_main_v6, Cert.ReferenceIdeal.Read.val_main_v5, Cert.ReferenceIdeal.Read.val_main_cst,
    Cert.ReferenceIdeal.Read.val_main_cst_0, Cert.ReferenceIdeal.Read.val_main_cst_1]
  done

/-- The scale's buffer holds the scale argument by head and lane. -/
theorem scale_apply : V m c main_v10 (ix3 h 0 j) = argG m c (ix1 ⟨h.val * 128 + j.val, by omega⟩) := by
  unfold V
  after_reads_at
  done

theorem block_decay : iblk m c 4 (pt b h) (ix3 0 0 j) = Ref.lgv h := by
  obtain ⟨-, -, -, -, ⟨a0, a1, a2⟩, -⟩ := places (pt b h)
  rw [pt_mod b h] at a0
  refine Eq.trans (b := V m c main_v9 (ix3 h 0 j)) ?_ (decay_apply m c h j)
  show V m c main_v9 _ = _
  refine congrArg (V m c main_v9) (funext fun a => Fin.ext ?_)
  match a with
  | ⟨0, _⟩ => show win0_4.index (pt b h) (0 : Fin 3) * 1 + 1 * 0 = h.val; omega
  | ⟨1, _⟩ => show win0_4.index (pt b h) (1 : Fin 3) * 1 + 1 * 0 = 0; omega
  | ⟨2, _⟩ => show win0_4.index (pt b h) (2 : Fin 3) * 128 + 1 * j.val = j.val; omega

theorem block_scale : iblk m c 5 (pt b h) (ix3 0 0 j) = argG m c (ix1 ⟨h.val * 128 + j.val, by omega⟩) := by
  obtain ⟨-, -, -, -, -, ⟨a0, a1, a2⟩, -⟩ := places (pt b h)
  rw [pt_mod b h] at a0
  refine Eq.trans (b := V m c main_v10 (ix3 h 0 j)) ?_ (scale_apply m c h j)
  show V m c main_v10 _ = _
  refine congrArg (V m c main_v10) (funext fun a => Fin.ext ?_)
  match a with
  | ⟨0, _⟩ => show win0_5.index (pt b h) (0 : Fin 3) * 1 + 1 * 0 = h.val; omega
  | ⟨1, _⟩ => show win0_5.index (pt b h) (1 : Fin 3) * 1 + 1 * 0 = 0; omega
  | ⟨2, _⟩ => show win0_5.index (pt b h) (2 : Fin 3) * 128 + 1 * j.val = j.val; omega

/-- The column blocks by chunk and place are the argument's columns by chunk and place. -/
theorem rowsOf_block :
    rowsOf (iblk m c 0 (pt b h)) = Ref.cols (argU m c) 0 b h ∧ rowsOf (iblk m c 1 (pt b h)) = Ref.cols (argU m c) 1 b h
      ∧ rowsOf (iblk m c 2 (pt b h)) = Ref.cols (argU m c) 2 b h := by
  refine ⟨?_, ?_, ?_⟩ <;> funext n p d
  · exact (block_cols m c b h _ d).1
  · exact (block_cols m c b h _ d).2.1
  · exact (block_cols m c b h _ d).2.2.1

/-- The result array after the run, at an element: the reference's retention of the two arguments there. -/
theorem final_apply :
    (dats m 0 c).arrAt 6 cfg0.N (ix3 b r ⟨h.val * 128 + j.val, by omega⟩)
      = Cert.ReferenceIdeal.Read.val_main_v361 (argU m c) (argG m c) (ix3 b r ⟨h.val * 128 + j.val, by omega⟩) := by
  obtain ⟨-, -, -, -, -, -, ⟨a0, a1, a2⟩⟩ := places (pt b h)
  rw [pt_div b h] at a0
  rw [pt_mod b h] at a2
  have e : ((cfg0.win 6).blk (pt b h)).view.emb (ix3 0 r j) = (ix3 b r ⟨h.val * 128 + j.val, by omega⟩ : S8x2048x512.Idx) := by
    refine funext fun a => Fin.ext ?_
    match a with
    | ⟨0, _⟩ => show win0_6.index (pt b h) (0 : Fin 3) * 1 + 1 * 0 = b.val; omega
    | ⟨1, _⟩ => show win0_6.index (pt b h) (1 : Fin 3) * 2048 + 1 * r.val = r.val; omega
    | ⟨2, _⟩ => show win0_6.index (pt b h) (2 : Fin 3) * 128 + 1 * j.val = h.val * 128 + j.val; omega
  have hb := congrFun (Cert.KernelIdeal.Value.blocks6 m c (pt b h) (flush0_6 (pt b h))) (ix3 0 r j)
  rw [Cert.KernelIdeal.Value.flushed6, outsAt_eq] at hb
  have hb' : (dats m 0 c).arrAt 6 cfg0.N (((cfg0.win 6).blk (pt b h)).view.emb (ix3 0 r j)) = outAll (iblk m c 0 (pt b h))
      (iblk m c 1 (pt b h)) (iblk m c 2 (pt b h)) (iblk m c 3 (pt b h)) (iblk m c 4 (pt b h)) (iblk m c 5 (pt b h)) (ix3 0 r j) := hb
  rw [e] at hb'
  refine hb'.trans ?_
  refine (outAll_apply (iblk m c 0 (pt b h)) (iblk m c 1 (pt b h)) (iblk m c 2 (pt b h)) (iblk m c 3 (pt b h)) (iblk m c 4 (pt b h))
    (iblk m c 5 (pt b h)) (Ref.lgv h) (fun j => block_decay m c b h j) r j).trans ?_
  obtain ⟨e0, e1, e2⟩ := rowsOf_block m c b h
  refine Eq.trans ?_ (Ref.result_apply (argU m c) (argG m c) b r h j).symm
  refine congr (congrArg₂ finish ?_ (block_scale m c b h j)) ?_ |> fun k => congrFun k j
  · exact congr (congr (congrArg (both (Ref.lgv h)) e0) e1) e2 |> fun k => congrFun (congrFun k _) _
  · refine (block_cols m c b h r j).2.2.2.trans (congrArg (fun z => argU m c (ix3 b r z)) (Fin.ext ?_))
    show 3584 + 128 * h.val + j.val = 3584 + (h.val * 128 + j.val)
    omega

end Blocks

/-- The result array after the run is the reference's result on the same arguments. -/
theorem final : (dats m 0 c).arrAt 6 cfg0.N = Cert.ReferenceIdeal.Read.val_main_v361 (argU m c) (argG m c) := by
  funext i
  have h0 : (i 0).val < 8 := (i 0).isLt
  have h1 : (i 1).val < 2048 := (i 1).isLt
  have h2 : (i 2).val < 512 := (i 2).isLt
  have e : i = (ix3 ⟨(i 0).val, h0⟩ ⟨(i 1).val, h1⟩ ⟨(⟨(i 2).val / 128, by omega⟩ : Fin 4).val * 128 + (⟨(i 2).val % 128, by omega⟩ : Fin 128).val, by
      show (i 2).val / 128 * 128 + (i 2).val % 128 < 512; omega⟩ : S8x2048x512.Idx) := by
    refine funext fun a => Fin.ext ?_
    match a with
    | ⟨0, _⟩ => rfl
    | ⟨1, _⟩ => rfl
    | ⟨2, _⟩ => show (i 2).val = (i 2).val / 128 * 128 + (i 2).val % 128; omega
  rw [e]
  exact final_apply m c _ _ _ _

/-- The reference runs to the end, keeps its arguments and, having no semaphore, leaves none off zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The retention's launch and its reference end with equal results on the extended reals, and both keep their arguments. -/
theorem equal : Cert.algebraic_KernelIdeal_ReferenceIdeal := by
  intro m g m' g' _ hm
  refine ⟨fun c => (dats m 0 c).arrAt 6 cfg0.N, Cert.KernelIdeal.Value.run_blocks m g, ?_⟩
  refine (θ_run _ _ _).mono (fun r hr c => ⟨(hr c).1.trans ?_, (hr c).2⟩) (Cert.ReferenceIdeal.Value.run m' g')
  refine (Cert.ReferenceIdeal.Read.val_main_v361_eq (StableHlo.launchContents m' c)).trans ?_
  refine Eq.trans ?_ (final m c).symm
  exact congrArg₂ Cert.ReferenceIdeal.Read.val_main_v361 (hm c).1 (hm c).2

end Cert.Ret

end
-- ==== Proof.Inp.Body.lean ====
/-
  What a grid point of the input projection leaves in its output block over the extended reals: at every column the
  product of the modulated, normed rows with that column of the weights, turned by the rotary tables where the column
  is of the retention's q or k.
-/
module

public import proofs.«01_k».proof.Proof.Gen.Kernel2Ideal.Value
public import Idealize.ShloMosaic.Lib.Pipeline.ReadBack
public import Idealize.ShloMosaic.Lib.Pointwise
public import Idealize.ShloMosaic.Lib.KernelVsHost
public import Idealize.ShloMosaic.Lib.Pipeline.ValueKit.Tiles

@[expose] public section

set_option maxRecDepth 16384

noncomputable section

namespace Cert.Inp

open Cert.Kernel2Ideal Cert.Kernel2Ideal.Gen Idealize.ShloMosaic Idealize.ShloMosaic.TcCoe Idealize.SL.Sem

/-! ## The functions of a row -/

/-- A row of 1024 features. -/
abbrev Row := Fin 1024 → EReal

/-- The modulated norm of a row at a feature: the row over its root mean square, by the gain and one more than the
    scale, plus the shift. -/
def hid (x sc sh g : Row) (k : Fin 1024) : EReal :=
  x k * Ideal.rsqrt (Ideal.div (∑ p, x p * x p) (Ideal.ofBits .f32 0x44800000#32) + Ideal.ofBits .f32 0x358637BD#32)
    * (g k * (1 + sc k)) + sh k

/-- The lane half a head away. -/
def across (j : Fin 128) : Fin 128 := ⟨(j.val + 128 - 64) % 128, Nat.mod_lt _ (by omega)⟩

/-- A lane turned by the rotary tables: the head's value there by the cosine, plus the value half a head away by the
    signed sine. -/
def turn (p : Fin 128 → EReal) (cs sn : Fin 128 → EReal) (j : Fin 128) : EReal := p j * cs j + p (across j) * sn j

/-- The kernel's named scale of the keys. -/
def keyScale : EReal := (((Real.sqrt 128)⁻¹ : ℝ) : EReal)

/-! ## The payloads at an element -/

section Pays

variable (x : Vec Ideal S1x512x1024 .f32) (sc sh : Vec Ideal S1x1x1024 .f32) (g : Vec Ideal S1x1024 .f32)
  (H : FVec Ideal S512x1024 .bf16) (W : Vec Ideal S1024x512 .bf16) (A : FVec Ideal S512x512 .f32)
  (cs sn : Vec Ideal S512x128 .f32) (r : Fin 512)

/-- The rows entering the product are the modulated norm of the block's rows. -/
theorem hid_apply (k : Fin 1024) : k0_pay5 x g sc sh (ix2 r k)
    = hid (fun k => x (ix3 0 r k)) (fun k => sc (ix3 0 0 k)) (fun k => sh (ix3 0 0 k)) (fun k => g (ix2 0 k)) k := by
  pointwise [k0_pay5]
  rfl

/-- Every spelling of an unturned piece in the body is one function of the rows and the weights' columns. -/
theorem flat_forms : k0_pay3 H W = k0_pay2 H W ∧ k0_pay4 H W = k0_pay2 H W ∧ k0_pay1 (k0_pay26 H W) = k0_pay2 H W
    ∧ k0_pay7 H W = k0_pay2 H W ∧ k0_pay8 H W = k0_pay2 H W ∧ k0_pay9 H W = k0_pay2 H W ∧ k0_pay23 H W = k0_pay2 H W
    ∧ k0_pay24 H W = k0_pay2 H W ∧ k0_pay25 H W = k0_pay2 H W := by
  and_intros <;> rfl

/-- So is the first piece, whose rows it forms itself. -/
theorem first_form : k0_pay6 x g sc sh W = k0_pay2 (k0_pay5 x g sc sh) W := rfl

/-- An unturned piece is the product. -/
theorem flat_apply (j : Fin 512) : k0_pay2 H W (ix3 0 r j) = ∑ k : Fin 1024, H (ix2 r k) * W (ix2 k j) := by
  pointwise [k0_pay2]

/-- A head's lanes of the product, from lane `o` of the 512 columns. -/
def headAt (o : ℕ) (ho : o + 128 ≤ 512) (j : Fin 128) : EReal :=
  ∑ k : Fin 1024, H (ix2 r k) * W (ix2 k ⟨o + j.val, by omega⟩)

/-- The four pieces of the queries are the four heads, turned. -/
theorem q_apply (j : Fin 128) :
    k0_pay12 (k0_pay11 H W cs sn) (FloatOps.ofBits .f32 1065353216#32) (ix3 0 r j)
        = turn (headAt H W r 0 (by omega)) (fun j => cs (ix2 r j)) (fun j => sn (ix2 r j)) j
    ∧ k0_pay13 (k0_pay10 H W) cs sn (ix3 0 r j)
        = turn (headAt H W r 128 (by omega)) (fun j => cs (ix2 r j)) (fun j => sn (ix2 r j)) j
    ∧ k0_pay14 (k0_pay10 H W) cs sn (ix3 0 r j)
        = turn (headAt H W r 256 (by omega)) (fun j => cs (ix2 r j)) (fun j => sn (ix2 r j)) j
    ∧ k0_pay15 (k0_pay10 H W) cs sn (ix3 0 r j)
        = turn (headAt H W r 384 (by omega)) (fun j => cs (ix2 r j)) (fun j => sn (ix2 r j)) j := by
  unfold turn headAt across
  simp only [zero_add]
  refine ⟨?_, ?_, ?_, ?_⟩ <;> pointwise [k0_pay10, k0_pay11, k0_pay12, k0_pay13, k0_pay14, k0_pay15]

/-- The kernel's named constant is `(√128)⁻¹`. -/
theorem named_keyScale : Named.named (F := Ideal) κ "inv_sqrt_d" (φ := .f32) 0x3DB504F3#32 = keyScale :=
  IdealRules.named_const.ideal_named_scalar _ _ _ _ rfl

/-- The four pieces of the keys are the four heads, turned and scaled. -/
theorem k_apply (j : Fin 128) :
    k0_pay17 H W cs sn (ix3 0 r j)
        = turn (headAt H W r 0 (by omega)) (fun j => cs (ix2 r j)) (fun j => sn (ix2 r j)) j * keyScale
    ∧ k0_pay19 (k0_pay18 H W) cs sn (ix3 0 r j)
        = turn (headAt H W r 128 (by omega)) (fun j => cs (ix2 r j)) (fun j => sn (ix2 r j)) j * keyScale
    ∧ k0_pay20 (k0_pay16 H W) cs sn (ix3 0 r j)
        = turn (headAt H W r 256 (by omega)) (fun j => cs (ix2 r j)) (fun j => sn (ix2 r j)) j * keyScale
    ∧ k0_pay22 (k0_pay21 (k0_pay16 H W) cs sn) (ix3 0 r j)
        = turn (headAt H W r 384 (by omega)) (fun j => cs (ix2 r j)) (fun j => sn (ix2 r j)) j * keyScale := by
  rw [← named_keyScale]
  unfold turn headAt across
  simp only [zero_add]
  refine ⟨?_, ?_, ?_, ?_⟩ <;>
    pointwise [k0_pay16, k0_pay17, k0_pay18, k0_pay19, k0_pay20, k0_pay21, k0_pay22]

end Pays

/-! ## The block's columns -/

/-- A row against a column of the weights. -/
def col (H : Row) (W : Fin 1024 → Fin 6656 → EReal) (c : Fin 6656) : EReal := ∑ k, H k * W k c

/-- A row of the output at a column: the product, turned within its head at the columns 2048 to 3071, and there scaled from
    column 2560 on. -/
def outCol (H : Row) (W : Fin 1024 → Fin 6656 → EReal) (cs sn : Fin 128 → EReal) (c : Fin 6656) : EReal :=
  if 2048 ≤ c.val ∧ c.val < 3072 then
    turn (fun j => col H W ⟨c.val / 128 * 128 + j.val, by omega⟩) cs sn ⟨c.val % 128, by omega⟩
      * (if c.val < 2560 then 1 else keyScale)
  else col H W c

/-- 512 columns of the weights, from column `o`. -/
def wcols (W : Vec Ideal S1024x6656 .bf16) (o : ℕ) : Vec Ideal S1024x512 .bf16 :=
  fun i => W (ix2 (i 0) ⟨(o + (i 1).val) % 6656, Nat.mod_lt _ (by omega)⟩)

/-- A read of 512 columns of the staged weights is those columns. -/
theorem readAt_cols (M : Memref sig .tc .vmem S1024x6656 .bf16) (hM : M.IsWhole) (W : Vec Ideal S1024x6656 .bf16) (o : ℕ)
    (h : ∀ a, ![0, o] a + ![1024, 512] a ≤ S1024x6656.size a) :
    View.readAt (Elt Ideal) M.view (Rect.unit ![0, o] ![1024, 512] h).toLoadRect (hM.unread W) = wcols W o := by
  rw [View.readAt_eq_ld, hM.read_unread]
  funext x
  have h1 : o + 512 ≤ 6656 := h 1
  have h2 : (x 1).val < 512 := (x 1).isLt
  refine View.ld_unit_apply_of W _ _ h x _ fun a => ?_
  match a with
  | ⟨0, _⟩ => show (x 0).val = 0 + (x 0).val; omega
  | ⟨1, _⟩ => show (o + (x 1).val) % 6656 = o + (x 1).val; omega

/-- A read of a whole staged block is that block. -/
theorem readAt_all {sg : RefSig} {s : Shape} {e : EltTy} (M : Memref sg .tc .vmem s e) (hM : M.IsWhole) (X : Vec Ideal s e)
    (o : Fin s.rank → ℕ) (ho : o = fun _ => 0) (h : ∀ a, o a + s.size a ≤ s.size a) :
    View.readAt (Elt Ideal) M.view (Rect.unit o s.size h).toLoadRect (hM.unread X) = X := by
  rw [View.readAt_eq_ld, hM.read_unread]
  exact View.ld_unit_zero ho h X

section Block

variable (x : Vec Ideal S1x512x1024 .f32) (sc sh : Vec Ideal S1x1x1024 .f32) (g : Vec Ideal S1x1024 .f32)
  (cs sn : Vec Ideal S512x128 .f32) (W : Vec Ideal S1024x6656 .bf16)

/-- The modulated norm of row `r` of the block. -/
def rowH (r : Fin 512) : Row :=
  hid (fun k => x (ix3 0 r k)) (fun k => sc (ix3 0 0 k)) (fun k => sh (ix3 0 0 k)) (fun k => g (ix2 0 k))

/-- The whole output block. -/
def outAll : Vec Ideal S1x512x6656 .bf16 := fun i =>
  outCol (rowH x sc sh g (i 1)) (fun k c => W (ix2 k c)) (fun j => cs (ix2 (i 1) j)) (fun j => sn (ix2 (i 1) j)) (i 2)

/-- An unturned piece from column `o` is the output block there. -/
theorem flat_at (o : ℕ) (ho : o + 512 ≤ 2048 ∨ 3072 ≤ o) (h : ∀ a, ![0, 0, o] a + ![1, 512, 512] a ≤ S1x512x6656.size a)
    (y : (Rect.unit (s := S1x512x6656) ![0, 0, o] ![1, 512, 512] h).shape.Idx) :
    k0_pay2 (k0_pay5 x g sc sh) (wcols W o) y
      = outAll x sc sh g cs sn W ((Rect.unit ![0, 0, o] ![1, 512, 512] h).emb y) := by
  have h0 : o + 512 ≤ 6656 := h 2
  have y0 : (y 0).val < 1 := (y 0).isLt
  have y1 : (y 1).val < 512 := (y 1).isLt
  have y2 : (y 2).val < 512 := (y 2).isLt
  have ey : y = (ix3 0 ⟨(y 1).val, y1⟩ ⟨(y 2).val, y2⟩ : S1x512x512.Idx) := by
    refine funext fun a => Fin.ext ?_
    match a with
    | ⟨0, _⟩ => show (y 0).val = 0; omega
    | ⟨1, _⟩ => rfl
    | ⟨2, _⟩ => rfl
  have e : (Rect.unit (s := S1x512x6656) ![0, 0, o] ![1, 512, 512] h).emb y
      = (ix3 0 ⟨(y 1).val, y1⟩ ⟨o + (y 2).val, by omega⟩ : S1x512x6656.Idx) := by
    refine funext fun a => Fin.ext ?_
    refine (Rect.idx_unit_val (s := S1x512x6656) _ _ h y a).trans ?_
    match a with
    | ⟨0, _⟩ => show 0 + (y 0).val = 0; omega
    | ⟨1, _⟩ => show 0 + (y 1).val = (y 1).val; omega
    | ⟨2, _⟩ => rfl
  rw [e]
  refine (congrArg _ ey).trans ((flat_apply _ _ _ _).trans ?_)
  unfold outAll outCol
  rw [if_neg (by show ¬(2048 ≤ o + (y 2).val ∧ o + (y 2).val < 3072); omega)]
  refine Finset.sum_congr rfl fun k _ => ?_
  refine congrArg₂ (· * ·) (hid_apply x sc sh g _ k) (congrArg (fun z => W (ix2 k z)) (Fin.ext ?_))
  show (o + (y 2).val) % 6656 = o + (y 2).val
  omega

/-- A turned piece of head `p` lanes into the columns from `o` is the output block there. -/
theorem turn_at (o p : ℕ) (hp : p + 128 ≤ 512) (hd : p % 128 = 0) (s : EReal)
    (ho : (o = 2048 ∧ s = 1) ∨ (o = 2560 ∧ s = keyScale)) (n : ℕ) (hn : n = o + p)
    (h : ∀ a, ![0, 0, n] a + ![1, 512, 128] a ≤ S1x512x6656.size a) (w : FVec Ideal S1x512x128 .bf16)
    (hw : ∀ r j, w (ix3 0 r j) = turn (headAt (k0_pay5 x g sc sh) (wcols W o) r p hp) (fun j => cs (ix2 r j))
      (fun j => sn (ix2 r j)) j * s)
    (y : (Rect.unit (s := S1x512x6656) ![0, 0, n] ![1, 512, 128] h).shape.Idx) :
    w y = outAll x sc sh g cs sn W ((Rect.unit ![0, 0, n] ![1, 512, 128] h).emb y) := by
  subst hn
  have y0 : (y 0).val < 1 := (y 0).isLt
  have y1 : (y 1).val < 512 := (y 1).isLt
  have y2 : (y 2).val < 128 := (y 2).isLt
  have ey : y = (ix3 0 ⟨(y 1).val, y1⟩ ⟨(y 2).val, y2⟩ : S1x512x128.Idx) := by
    refine funext fun a => Fin.ext ?_
    match a with
    | ⟨0, _⟩ => show (y 0).val = 0; omega
    | ⟨1, _⟩ => rfl
    | ⟨2, _⟩ => rfl
  have e : (Rect.unit (s := S1x512x6656) ![0, 0, o + p] ![1, 512, 128] h).emb y
      = (ix3 0 ⟨(y 1).val, y1⟩ ⟨o + p + (y 2).val, by omega⟩ : S1x512x6656.Idx) := by
    refine funext fun a => Fin.ext ?_
    refine (Rect.idx_unit_val (s := S1x512x6656) _ _ h y a).trans ?_
    match a with
    | ⟨0, _⟩ => show 0 + (y 0).val = 0; omega
    | ⟨1, _⟩ => show 0 + (y 1).val = (y 1).val; omega
    | ⟨2, _⟩ => rfl
  rw [e]
  refine (congrArg w ey).trans ((hw _ _).trans ?_)
  unfold outAll outCol
  rw [if_pos (by show 2048 ≤ o + p + (y 2).val ∧ o + p + (y 2).val < 3072; omega)]
  have es : (if o + p + (y 2).val < 2560 then (1 : EReal) else keyScale) = s := by
    rcases ho with ⟨rfl, rfl⟩ | ⟨rfl, rfl⟩
    · exact if_pos (by omega)
    · exact if_neg (by omega)
  refine congrArg₂ (· * ·) ?_ es.symm
  have ep : headAt (k0_pay5 x g sc sh) (wcols W o) ⟨(y 1).val, y1⟩ p hp
      = fun j => col (rowH x sc sh g ⟨(y 1).val, y1⟩) (fun k c => W (ix2 k c))
          ⟨(o + p + (y 2).val) / 128 * 128 + j.val, by omega⟩ := by
    funext j
    refine Finset.sum_congr rfl fun k _ => ?_
    refine congrArg₂ (· * ·) (hid_apply x sc sh g _ k) (congrArg (fun z => W (ix2 k z)) (Fin.ext ?_))
    show (o + (p + j.val)) % 6656 = (o + p + (y 2).val) / 128 * 128 + j.val
    omega
  rw [ep]
  refine congrArg (turn _ _ _) (Fin.ext ?_)
  show (y 2).val = (o + p + (y 2).val) % 128
  omega

end Block

/-! ## What the body leaves in its block -/

variable (m : (ℓ : Loc nD τ sig) → Buf (Elt Ideal) ℓ)

set_option maxHeartbeats 4000000 in
set_option backward.isDefEq.respectTransparency false in
/-- What grid point `t` leaves in its output block: the projected rows of its input blocks. -/
theorem outsAt_eq (c : Dev nD) (t : Fin cfg0.N) :
    outsAt0 m c t = outAll (iblk m c 0 t) (iblk m c 1 t) (iblk m c 2 t) (iblk m c 3 t) (iblk m c 4 t) (iblk m c 5 t) (iblk m c 6 t) := by
  unfold outsAt0 out0_A_7
  rw [View.read_writes_eq_canon _ _ _ (cover0_A_7 c _ _ _ _ _ _ _ _ _ _ _ _ _ _ _ _ _ _ _ _ _ _ _ _)]
  funext y
  have hc := cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) y
  refine View.canon_append_of_piecesOf _ [] _ ?_ y hc
  unfold kernelRun0_A
  dsimp only
  sl_unfold_words
  simp only [readAt_cols]
  simp only [readAt_all (s := S1x512x1024) _ _ _ ![0, 0, 0] (by decide), readAt_all (s := S1x1x1024) _ _ _ ![0, 0, 0] (by decide),
    readAt_all (s := S1x1024) _ _ _ ![0, 0] (by decide), readAt_all (s := S512x128) _ _ _ ![0, 0] (by decide)]
  generalize iblk m c 0 t = x
  generalize iblk m c 1 t = sc
  generalize iblk m c 2 t = sh
  generalize iblk m c 3 t = g
  generalize iblk m c 4 t = cs
  generalize iblk m c 5 t = sn
  generalize iblk m c 6 t = W
  simp only [flat_forms, first_form]
  have flat := flat_at x sc sh g cs sn W
  have q := q_apply (k0_pay5 x g sc sh) (wcols W 2048) cs sn
  have k := k_apply (k0_pay5 x g sc sh) (wcols W 2560) cs sn
  have qat := fun p hp hd => turn_at x sc sh g cs sn W 2048 p hp hd 1 (Or.inl ⟨rfl, rfl⟩)
  have kat := fun p hp hd => turn_at x sc sh g cs sn W 2560 p hp hd keyScale (Or.inr ⟨rfl, rfl⟩)
  exact ⟨flat 6144 (by decide) (by decide), flat 5632 (by decide) (by decide), flat 5120 (by decide) (by decide),
    flat 4608 (by decide) (by decide), flat 4096 (by decide) (by decide), flat 3584 (by decide) (by decide),
    flat 3072 (by decide) (by decide),
    kat 384 (by decide) (by decide) 2944 rfl (by decide) _ fun r j => (k r j).2.2.2,
    kat 256 (by decide) (by decide) 2816 rfl (by decide) _ fun r j => (k r j).2.2.1,
    kat 128 (by decide) (by decide) 2688 rfl (by decide) _ fun r j => (k r j).2.1,
    kat 0 (by decide) (by decide) 2560 rfl (by decide) _ fun r j => (k r j).1,
    qat 384 (by decide) (by decide) 2432 rfl (by decide) _ fun r j => (q r j).2.2.2.trans (mul_one _).symm,
    qat 256 (by decide) (by decide) 2304 rfl (by decide) _ fun r j => (q r j).2.2.1.trans (mul_one _).symm,
    qat 128 (by decide) (by decide) 2176 rfl (by decide) _ fun r j => (q r j).2.1.trans (mul_one _).symm,
    qat 0 (by decide) (by decide) 2048 rfl (by decide) _ fun r j => (q r j).1.trans (mul_one _).symm,
    flat 1536 (by decide) (by decide), flat 1024 (by decide) (by decide), flat 512 (by decide) (by decide),
    flat 0 (by decide) (by decide), trivial⟩

end Cert.Inp
end
-- ==== Proof.Inp.Ref.lean ====
/-
  The reference's input projection read at an element.
-/
module

public import proofs.«01_k».proof.Proof.Gen.Reference2Ideal.Read
public import proofs.«01_k».proof.Proof.Inp.Body

@[expose] public section

set_option maxRecDepth 16384

noncomputable section

namespace Cert.Inp.Ref

open Cert.Reference2Ideal Cert.Reference2Ideal.Gen Cert.Reference2Ideal.Read Idealize.ShloMosaic Idealize.ShloMosaic.TcCoe
open Idealize.SL.Sem

/-- The projection's arguments. -/
abbrev X := (⟨S8x2048x1024, .f32⟩ : BufTy).Contents (Elt Ideal)
abbrev M := (⟨S8x1x1024, .f32⟩ : BufTy).Contents (Elt Ideal)
abbrev G := (⟨S1024, .f32⟩ : BufTy).Contents (Elt Ideal)
abbrev W := (⟨S1024x6656, .f32⟩ : BufTy).Contents (Elt Ideal)

variable (x : X) (sc sh : M) (g : G) (w : W)

/-- The modulated norm of row `r` of batch `b`. -/
def rowH (b : Fin 8) (r : Fin 2048) : Row :=
  hid (fun k => x (ix3 b r k)) (fun k => sc (ix3 b 0 k)) (fun k => sh (ix3 b 0 k)) (fun k => g (ix1 k))

/-- The cosine and the sine of row `r`'s angle at lane `j` of half a head. -/
def cosOf (r : Fin 2048) (j : Fin 64) : EReal := val_main_v38 (F := Ideal) (ix2 r j)
def sinOf (r : Fin 2048) (j : Fin 64) : EReal := val_main_v40 (F := Ideal) (ix2 r j)

/-- The tables over a whole head: the cosine twice, and the sine negated on the first half. -/
def cosRow (r : Fin 2048) (j : Fin 128) : EReal := cosOf r ⟨j.val % 64, by omega⟩
def sinRow (r : Fin 2048) (j : Fin 128) : EReal :=
  if j.val < 64 then -sinOf r ⟨j.val % 64, by omega⟩ else sinOf r ⟨j.val % 64, by omega⟩

/-- The weights' columns in the order of the result. -/
def wOrd (k : Fin 1024) (c : Fin 6656) : EReal := w (ix2 k ⟨(c.val + 4608) % 6656, by omega⟩)

/-- The reference's modulated norm. -/
theorem hid_apply (b : Fin 8) (r : Fin 2048) (k : Fin 1024) : val_main_v18 x sc sh g (ix3 b r k) = rowH x sc sh g b r k := by
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2]
  unfold rowH hid
  rw [mul_assoc (_ * _) _ _]

/-- The reference's product at a column. -/
theorem col_apply (b : Fin 8) (r : Fin 2048) (c : Fin 6656) :
    val_main_v19 x sc sh g w (ix3 b r c) = ∑ k, rowH x sc sh g b r k * w (ix2 k c) := by
  pointwise [val_main_v19]
  simp only [hid_apply]

/-- The half-head turn of the reference is the turn by the whole-head tables. -/
theorem turn_eq (p : Fin 128 → EReal) (r : Fin 2048) (j : Fin 128) :
    (if h : j.val < 64 then p ⟨j.val, by omega⟩ * cosOf r ⟨j.val, by omega⟩ - p ⟨64 + j.val, by omega⟩ * sinOf r ⟨j.val, by omega⟩
      else p ⟨j.val - 64, by omega⟩ * sinOf r ⟨j.val - 64, by omega⟩
        + p ⟨64 + (j.val - 64), by omega⟩ * cosOf r ⟨j.val - 64, by omega⟩)
      = turn p (cosRow r) (sinRow r) j := by
  unfold turn cosRow sinRow
  by_cases h : j.val < 64
  · rw [dif_pos h, if_pos h, mul_neg, ← sub_eq_add_neg]
    have e : (⟨j.val % 64, by omega⟩ : Fin 64) = ⟨j.val, by omega⟩ := Fin.ext (by show j.val % 64 = j.val; omega)
    have e' : across j = ⟨64 + j.val, by omega⟩ := Fin.ext (by show (j.val + 128 - 64) % 128 = 64 + j.val; omega)
    rw [e, e']
  · rw [dif_neg h, if_neg h, add_comm]
    have e : (⟨j.val % 64, by omega⟩ : Fin 64) = ⟨j.val - 64, by omega⟩ := Fin.ext (by show j.val % 64 = j.val - 64; omega)
    have e' : across j = ⟨j.val - 64, by omega⟩ := Fin.ext (by show (j.val + 128 - 64) % 128 = j.val - 64; omega)
    have e'' : (⟨64 + (j.val - 64), by omega⟩ : Fin 128) = j := Fin.ext (by show 64 + (j.val - 64) = j.val; omega)
    rw [e, e', e'']

section Heads

variable (b : Fin 8) (r : Fin 2048) (h : Fin 4) (j : Fin 128)

/-- The reference's queries: the first 512 columns of the product, turned head by head. -/
theorem q_apply : val_main_v54 x sc sh g w (ix4 b r h j)
    = turn (fun j => val_main_v19 x sc sh g w (ix3 b r ⟨h.val * 128 + j.val, by omega⟩)) (cosRow r) (sinRow r) j := by
  rw [← turn_eq]
  pointwise [val_main_v54, val_main_v53, val_main_v52, val_main_v51, val_main_v50, val_main_v49, val_main_v48, val_main_v47, val_main_v46,
    val_main_v45, val_main_v44, val_main_v43, val_main_v42, val_main_v41, val_main_v39, val_main_v24, val_main_v20]
  rfl

/-- The second pair of tables is the first. -/
theorem tables_again : val_main_v70 (F := Ideal) = val_main_v38 ∧ val_main_v72 (F := Ideal) = val_main_v40 := ⟨rfl, rfl⟩

/-- The reference's keys before their scale: the next 512 columns, turned head by head. -/
theorem k_apply : val_main_v86 x sc sh g w (ix4 b r h j)
    = turn (fun j => val_main_v19 x sc sh g w (ix3 b r ⟨512 + (h.val * 128 + j.val), by omega⟩)) (cosRow r) (sinRow r) j := by
  rw [← turn_eq]
  pointwise [val_main_v86, val_main_v85, val_main_v84, val_main_v83, val_main_v82, val_main_v81, val_main_v80, val_main_v79, val_main_v78,
    val_main_v77, val_main_v76, val_main_v75, val_main_v74, val_main_v73, val_main_v71, val_main_v56, val_main_v21]
  simp only [tables_again]
  rfl

/-- A quotient by the root of 128 is a product with the kernel's named scale. -/
theorem div_root (z : EReal) : Ideal.div z (Ideal.sqrt (Ideal.ofBits .f32 1124073472#32)) = z * keyScale := by
  have e : Ideal.ofBits .f32 1124073472#32 = ((128 : ℝ) : EReal) := by
    simp [Ideal.ofBits, Ideal.ieee, -EReal.coe_mul]
    norm_num
  have p : Real.sqrt 128 ≠ 0 := (Real.sqrt_pos.mpr (by norm_num)).ne'
  rw [e, Ideal.sqrt_coe, if_neg (by norm_num), Ideal.div_coe p, one_div]
  rfl

end Heads

/-- The reference's result at a column, by the four arrays that it sets side by side. -/
theorem out_cases (b : Fin 8) (r : Fin 2048) (c : Fin 6656) : val_main_v92 x sc sh g w (ix3 b r c)
    = if h1 : c.val < 2048 then val_main_v19 x sc sh g w (ix3 b r ⟨4608 + c.val, by omega⟩)
      else if h2 : c.val - 2048 < 512 then
        val_main_v54 x sc sh g w (ix4 b r ⟨(c.val - 2048) / 128, by omega⟩ ⟨(c.val - 2048) % 128, by omega⟩)
      else if h3 : c.val - 2048 - 512 < 512 then
        Ideal.div (val_main_v86 x sc sh g w
            (ix4 b r ⟨(c.val - 2048 - 512) / 128, by omega⟩ ⟨(c.val - 2048 - 512) % 128, by omega⟩))
          (Ideal.sqrt (Ideal.ofBits .f32 1124073472#32))
      else val_main_v19 x sc sh g w (ix3 b r ⟨1024 + (c.val - 2048 - 512 - 512), by omega⟩) := by
  pointwise [val_main_v92, val_main_v91, val_main_v23, val_main_v55, val_main_v90, val_main_v22, val_main_v89, val_main_v88,
    val_main_v87, val_main_cst_9]
  try rfl

/-- The reference's result at a column: the product with the reordered weights, turned and scaled where the column is of
    the queries or the keys. -/
theorem out_apply (b : Fin 8) (r : Fin 2048) (c : Fin 6656) :
    val_main_v92 x sc sh g w (ix3 b r c) = outCol (rowH x sc sh g b r) (wOrd w) (cosRow r) (sinRow r) c := by
  have hc (c : Fin 6656) (c' : Fin 6656) (e : c'.val = (c.val + 4608) % 6656) :
      val_main_v19 x sc sh g w (ix3 b r c') = col (rowH x sc sh g b r) (wOrd w) c := by
    rw [col_apply]
    unfold col wOrd
    rw [show c' = ⟨(c.val + 4608) % 6656, by omega⟩ from Fin.ext e]
  rw [out_cases]
  unfold outCol
  by_cases h1 : c.val < 2048
  · rw [dif_pos h1, if_neg (by omega)]
    exact hc c _ (by show 4608 + c.val = _; omega)
  rw [dif_neg h1]
  by_cases h2 : c.val - 2048 < 512
  · rw [dif_pos h2, if_pos (by omega), if_pos (by omega), mul_one, q_apply]
    refine congr (congrFun (congrFun (congrArg turn (funext fun j => ?_)) _) _) (Fin.ext ?_)
    · exact hc _ _ (by show (c.val - 2048) / 128 * 128 + j.val = (c.val / 128 * 128 + j.val + 4608) % 6656; omega)
    · show (c.val - 2048) % 128 = c.val % 128; omega
  rw [dif_neg h2]
  by_cases h3 : c.val - 2048 - 512 < 512
  · rw [dif_pos h3, if_pos (by omega), if_neg (by omega), div_root, k_apply]
    refine congrArg (· * keyScale) (congr (congrFun (congrFun (congrArg turn (funext fun j => ?_)) _) _) (Fin.ext ?_))
    · exact hc _ _ (by show 512 + ((c.val - 2048 - 512) / 128 * 128 + j.val) = (c.val / 128 * 128 + j.val + 4608) % 6656; omega)
    · show (c.val - 2048 - 512) % 128 = c.val % 128; omega
  rw [dif_neg h3, if_neg (by omega)]
  exact hc c _ (by show 1024 + (c.val - 2048 - 512 - 512) = _; omega)

end Cert.Inp.Ref
end
-- ==== Proof.Inp.Launch.lean ====
/-
  The input projection's result array, read at an element: what the blocks of one grid point hold of the arguments, what
  that point writes, and the two programs' results compared.
-/
module

public import proofs.«01_k».proof.Defs
public import proofs.«01_k».proof.Proof.Inp.Body
public import proofs.«01_k».proof.Proof.Inp.Ref
public import proofs.«01_k».proof.Proof.Gen.Kernel2Ideal.Value
public import proofs.«01_k».proof.Proof.Gen.Reference2Ideal.Run
public import Idealize.ShloMosaic.Lib.StableHlo.ReadAt
public import Idealize.ShloMosaic.Lib.Claim
public import Idealize.ShloMosaic.Lib.Quiescent

@[expose] public section

set_option maxRecDepth 16384

noncomputable section

namespace Cert.Inp

open Cert.Kernel2Ideal Cert.Kernel2Ideal.Gen Idealize.ShloMosaic Idealize.ShloMosaic.TcCoe Idealize.SL.Sem
open Cert.Reference2Ideal.Read

/-- The grid point of batch `b` and row block `q`. -/
def pt (b : Fin 8) (q : Fin 4) : Fin cfg0.N := ⟨b.val * 4 + q.val, by
  have e : cfg0.N = 32 := N_0
  omega⟩

/-- The hidden states and the result sit at their batch and row block, the modulation at its batch, the tables at their
    row block; the norm's scale and the weights are whole. -/
theorem places : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = t.val % 4 ∧ win0_4.index t (1 : Fin 2) = 0)
    ∧ (win0_5.index t (0 : Fin 2) = t.val % 4 ∧ win0_5.index t (1 : Fin 2) = 0)
    ∧ (win0_6.index t (0 : Fin 2) = 0 ∧ win0_6.index t (1 : Fin 2) = 0)
    ∧ (win0_7.index t (0 : Fin 3) = t.val / 4 ∧ win0_7.index t (1 : Fin 3) = t.val % 4 ∧ win0_7.index t (2 : Fin 3) = 0) :=
  (by decide +kernel : ∀ t : Fin grid0.N, _)

variable (m : (ℓ : Loc nD τ sig) → Buf (Elt Ideal) ℓ) (c : Dev nD)

/-- The arguments the launch finds. -/
abbrev argX : Ref.X := m ((c : Thread nD τ).loc main_arg0)
abbrev argSc : Ref.M := m ((c : Thread nD τ).loc main_arg1)
abbrev argSh : Ref.M := m ((c : Thread nD τ).loc main_arg2)
abbrev argG : Ref.G := m ((c : Thread nD τ).loc main_arg3)
abbrev argW : Ref.W := m ((c : Thread nD τ).loc main_arg4)

section Buffers

/-- The norm's scale is handed over as one row. -/
theorem scale_apply (k : Fin 1024) : V m c main_v22 (ix2 0 k) = argG m c (ix1 k) := by
  unfold V
  after_reads_at
  done

/-- The weights are handed over with the gates' columns first. -/
theorem weights_apply (k : Fin 1024) (p : Fin 6656) : V m c main_v3 (ix2 k p) = Ref.wOrd (argW m c) k p := by
  unfold V Ref.wOrd
  after_reads_at
  by_cases h : p.val < 2048
  · rw [dif_pos h]
    after_reads_at
    refine congrArg (fun z => argW m c (ix2 k z)) (Fin.ext ?_)
    show 4608 + p.val = (p.val + 4608) % 6656
    omega
  · rw [dif_neg h]
    after_reads_at
    refine congrArg (fun z => argW m c (ix2 k z)) (Fin.ext ?_)
    show p.val - 2048 = (p.val + 4608) % 6656
    omega

/-- The cosine table is the reference's, twice over. -/
theorem cos_apply (r : Fin 2048) (j : Fin 128) : V m c main_v19 (ix2 r j) = Ref.cosRow r j := by
  unfold V Ref.cosRow Ref.cosOf
  after_reads_at
  pointwise [val_main_v38, val_main_v37, val_main_v36, val_main_v35, val_main_v34, val_main_v33, val_main_v32, val_main_v31,
    val_main_v30, val_main_v29, val_main_v28, val_main_v27, val_main_v26, val_main_v25, val_main_cst_3, val_main_cst_4,
    val_main_cst_5]
  by_cases h : j.val < 64
  · rw [dif_pos h, Nat.mod_eq_of_lt h]
  · rw [dif_neg h, show j.val % 64 = j.val - 64 by omega]

/-- The sine table is the reference's, negated on the first half. -/
theorem sin_apply (r : Fin 2048) (j : Fin 128) : V m c main_v21 (ix2 r j) = Ref.sinRow r j := by
  unfold V Ref.sinRow Ref.sinOf
  after_reads_at
  pointwise [val_main_v40, val_main_v37, val_main_v36, val_main_v35, val_main_v34, val_main_v33, val_main_v32, val_main_v31,
    val_main_v30, val_main_v29, val_main_v28, val_main_v27, val_main_v26, val_main_v25, val_main_cst_3, val_main_cst_4,
    val_main_cst_5]
  by_cases h : j.val < 64
  · rw [dif_pos h, if_pos h, Nat.mod_eq_of_lt h]
  · rw [dif_neg h, if_neg h, show j.val % 64 = j.val - 64 by omega]

end Buffers

section Blocks

variable (b : Fin 8) (q : Fin 4)

theorem pt_div : (pt b q).val / 4 = b.val := by show (b.val * 4 + q.val) / 4 = b.val; omega
theorem pt_mod : (pt b q).val % 4 = q.val := by show (b.val * 4 + q.val) % 4 = q.val; omega

/-- The blocks of the hidden states and of the modulation. -/
theorem block_rows (r : Fin 512) (k : Fin 1024) :
    iblk m c 0 (pt b q) (ix3 0 r k) = argX m c (ix3 b ⟨q.val * 512 + r.val, by omega⟩ k)
    ∧ iblk m c 1 (pt b q) (ix3 0 0 k) = argSc m c (ix3 b 0 k)
    ∧ iblk m c 2 (pt b q) (ix3 0 0 k) = argSh m c (ix3 b 0 k) := by
  obtain ⟨⟨a0, a1, a2⟩, ⟨b0, b1, b2⟩, ⟨c0, c1, c2⟩, -⟩ := places (pt b q)
  rw [pt_div b q] at a0 b0 c0
  rw [pt_mod b q] at a1
  refine ⟨?_, ?_, ?_⟩
  · show V m c main_arg0 _ = _
    rw [V_main_arg0]
    refine congrArg (argX m c) (funext fun a => Fin.ext ?_)
    match a with
    | ⟨0, _⟩ => show win0_0.index (pt b q) (0 : Fin 3) * 1 + 1 * 0 = b.val; omega
    | ⟨1, _⟩ => show win0_0.index (pt b q) (1 : Fin 3) * 512 + 1 * r.val = q.val * 512 + r.val; omega
    | ⟨2, _⟩ => show win0_0.index (pt b q) (2 : Fin 3) * 1024 + 1 * k.val = k.val; omega
  · show V m c main_arg1 _ = _
    rw [V_main_arg1]
    refine congrArg (argSc m c) (funext fun a => Fin.ext ?_)
    match a with
    | ⟨0, _⟩ => show win0_1.index (pt b q) (0 : Fin 3) * 1 + 1 * 0 = b.val; omega
    | ⟨1, _⟩ => show win0_1.index (pt b q) (1 : Fin 3) * 1 + 1 * 0 = 0; omega
    | ⟨2, _⟩ => show win0_1.index (pt b q) (2 : Fin 3) * 1024 + 1 * k.val = k.val; omega
  · show V m c main_arg2 _ = _
    rw [V_main_arg2]
    refine congrArg (argSh m c) (funext fun a => Fin.ext ?_)
    match a with
    | ⟨0, _⟩ => show win0_2.index (pt b q) (0 : Fin 3) * 1 + 1 * 0 = b.val; omega
    | ⟨1, _⟩ => show win0_2.index (pt b q) (1 : Fin 3) * 1 + 1 * 0 = 0; omega
    | ⟨2, _⟩ => show win0_2.index (pt b q) (2 : Fin 3) * 1024 + 1 * k.val = k.val; omega

/-- The block of the norm's scale. -/
theorem block_scale (k : Fin 1024) : iblk m c 3 (pt b q) (ix2 0 k) = argG m c (ix1 k) := by
  obtain ⟨-, -, -, ⟨a0, a1⟩, -⟩ := places (pt b q)
  refine Eq.trans (b := V m c main_v22 (ix2 0 k)) ?_ (scale_apply m c k)
  show V m c main_v22 _ = _
  refine congrArg (V m c main_v22) (funext fun a => Fin.ext ?_)
  match a with
  | ⟨0, _⟩ => show win0_3.index (pt b q) (0 : Fin 2) * 1 + 1 * 0 = 0; omega
  | ⟨1, _⟩ => show win0_3.index (pt b q) (1 : Fin 2) * 1024 + 1 * k.val = k.val; omega

/-- The blocks of the two tables. -/
theorem block_tables (r : Fin 512) (j : Fin 128) :
    iblk m c 4 (pt b q) (ix2 r j) = Ref.cosRow ⟨q.val * 512 + r.val, by omega⟩ j
    ∧ iblk m c 5 (pt b q) (ix2 r j) = Ref.sinRow ⟨q.val * 512 + r.val, by omega⟩ j := by
  obtain ⟨-, -, -, -, ⟨a0, a1⟩, ⟨b0, b1⟩, -⟩ := places (pt b q)
  rw [pt_mod b q] at a0 b0
  refine ⟨?_, ?_⟩
  · refine Eq.trans (b := V m c main_v19 (ix2 ⟨q.val * 512 + r.val, by omega⟩ j)) ?_ (cos_apply m c _ j)
    show V m c main_v19 _ = _
    refine congrArg (V m c main_v19) (funext fun a => Fin.ext ?_)
    match a with
    | ⟨0, _⟩ => show win0_4.index (pt b q) (0 : Fin 2) * 512 + 1 * r.val = q.val * 512 + r.val; omega
    | ⟨1, _⟩ => show win0_4.index (pt b q) (1 : Fin 2) * 128 + 1 * j.val = j.val; omega
  · refine Eq.trans (b := V m c main_v21 (ix2 ⟨q.val * 512 + r.val, by omega⟩ j)) ?_ (sin_apply m c _ j)
    show V m c main_v21 _ = _
    refine congrArg (V m c main_v21) (funext fun a => Fin.ext ?_)
    match a with
    | ⟨0, _⟩ => show win0_5.index (pt b q) (0 : Fin 2) * 512 + 1 * r.val = q.val * 512 + r.val; omega
    | ⟨1, _⟩ => show win0_5.index (pt b q) (1 : Fin 2) * 128 + 1 * j.val = j.val; omega

/-- The block of the weights. -/
theorem block_weights (k : Fin 1024) (p : Fin 6656) : iblk m c 6 (pt b q) (ix2 k p) = Ref.wOrd (argW m c) k p := by
  obtain ⟨-, -, -, -, -, -, ⟨a0, a1⟩, -⟩ := places (pt b q)
  refine Eq.trans (b := V m c main_v3 (ix2 k p)) ?_ (weights_apply m c k p)
  show V m c main_v3 _ = _
  refine congrArg (V m c main_v3) (funext fun a => Fin.ext ?_)
  match a with
  | ⟨0, _⟩ => show win0_6.index (pt b q) (0 : Fin 2) * 1024 + 1 * k.val = k.val; omega
  | ⟨1, _⟩ => show win0_6.index (pt b q) (1 : Fin 2) * 6656 + 1 * p.val = p.val; omega

/-- The result array after the run, at an element: the reference's projection of the five arguments there. -/
theorem final_apply (r : Fin 512) (p : Fin 6656) :
    (dats m 0 c).arrAt 7 cfg0.N (ix3 b ⟨q.val * 512 + r.val, by omega⟩ p)
      = val_main_v92 (argX m c) (argSc m c) (argSh m c) (argG m c) (argW m c) (ix3 b ⟨q.val * 512 + r.val, by omega⟩ p) := by
  obtain ⟨-, -, -, -, -, -, -, ⟨a0, a1, a2⟩⟩ := places (pt b q)
  rw [pt_div b q] at a0
  rw [pt_mod b q] at a1
  have e : ((cfg0.win 7).blk (pt b q)).view.emb (ix3 0 r p) = (ix3 b ⟨q.val * 512 + r.val, by omega⟩ p : S8x2048x6656.Idx) := by
    refine funext fun a => Fin.ext ?_
    match a with
    | ⟨0, _⟩ => show win0_7.index (pt b q) (0 : Fin 3) * 1 + 1 * 0 = b.val; omega
    | ⟨1, _⟩ => show win0_7.index (pt b q) (1 : Fin 3) * 512 + 1 * r.val = q.val * 512 + r.val; omega
    | ⟨2, _⟩ => show win0_7.index (pt b q) (2 : Fin 3) * 6656 + 1 * p.val = p.val; omega
  have hb := congrFun (Cert.Kernel2Ideal.Value.blocks7 m c (pt b q) (flush0_7 (pt b q))) (ix3 0 r p)
  rw [Cert.Kernel2Ideal.Value.flushed7, outsAt_eq] at hb
  have hb' : (dats m 0 c).arrAt 7 cfg0.N (((cfg0.win 7).blk (pt b q)).view.emb (ix3 0 r p)) = outAll (iblk m c 0 (pt b q))
      (iblk m c 1 (pt b q)) (iblk m c 2 (pt b q)) (iblk m c 3 (pt b q)) (iblk m c 4 (pt b q)) (iblk m c 5 (pt b q))
      (iblk m c 6 (pt b q)) (ix3 0 r p) := hb
  rw [e] at hb'
  refine hb'.trans (Eq.trans ?_ (Ref.out_apply (argX m c) (argSc m c) (argSh m c) (argG m c) (argW m c) b _ p).symm)
  refine congr (congr (congr (congrArg₂ outCol ?_ ?_) ?_) ?_) rfl
  · unfold rowH Ref.rowH
    refine congr (congr (congrArg₂ hid ?_ ?_) ?_) ?_ <;> funext k
    · exact (block_rows m c b q r k).1
    · exact (block_rows m c b q r k).2.1
    · exact (block_rows m c b q r k).2.2
    · exact block_scale m c b q k
  · exact funext fun k => funext fun p => block_weights m c b q k p
  · exact funext fun j => (block_tables m c b q r j).1
  · exact funext fun j => (block_tables m c b q r j).2

end Blocks

/-- The result array after the run is the reference's result on the same arguments. -/
theorem final : (dats m 0 c).arrAt 7 cfg0.N
    = val_main_v92 (argX m c) (argSc m c) (argSh m c) (argG m c) (argW m c) := by
  funext i
  have h0 : (i 0).val < 8 := (i 0).isLt
  have h1 : (i 1).val < 2048 := (i 1).isLt
  have h2 : (i 2).val < 6656 := (i 2).isLt
  have e : i = (ix3 ⟨(i 0).val, h0⟩ ⟨(⟨(i 1).val / 512, by omega⟩ : Fin 4).val * 512 + (⟨(i 1).val % 512, by omega⟩ : Fin 512).val, by
      show (i 1).val / 512 * 512 + (i 1).val % 512 < 2048; omega⟩ ⟨(i 2).val, h2⟩ : S8x2048x6656.Idx) := by
    refine funext fun a => Fin.ext ?_
    match a with
    | ⟨0, _⟩ => rfl
    | ⟨1, _⟩ => show (i 1).val = (i 1).val / 512 * 512 + (i 1).val % 512; omega
    | ⟨2, _⟩ => rfl
  rw [e]
  exact final_apply m c _ _ _ _

/-- The reference runs to the end, keeps its arguments and, having no semaphore, leaves none off zero. -/
theorem reference_frame : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The one literal that the reading on the extended reals replaces: the key scale by the inverse root of 128. -/
theorem keeps : Cert.preserves_Kernel2_Kernel2Ideal :=
  IdealRules.named_const.statement Cert.Kernel2Ideal.κ "inv_sqrt_d" .f32 0x3DB504F3#32 (((Real.sqrt 128)⁻¹ : ℝ) : EReal) rfl

/-- The projection's launch and its reference end with equal results on the extended reals, and both keep their arguments. -/
theorem equal : Cert.algebraic_Kernel2Ideal_Reference2Ideal := by
  intro m g m' g' _ hm
  refine ⟨fun c => (dats m 0 c).arrAt 7 cfg0.N, Cert.Kernel2Ideal.Value.run_blocks m g, ?_⟩
  refine (θ_run _ _ _).mono (fun r hr c => ⟨(hr c).1.trans ?_, (hr c).2⟩) (Cert.Reference2Ideal.Value.run m' g')
  refine (val_main_v92_eq m' c).trans ?_
  refine Eq.trans ?_ (final m c).symm
  obtain ⟨e0, e1, e2, e3, e4⟩ := hm c
  exact congr (congr (congr (congrArg₂ val_main_v92 e0 e1) e2) e3) e4

end Cert.Inp

end
-- ==== Proof.Exp.Body.lean ====
/-
  The experts' feed-forward call: what one grid point's body does to the buffers it is given.
-/
module

public import proofs.«01_k».proof.Proof.Gen.Kernel3Ideal.Launch
public import proofs.«01_k».proof.Proof.Gen.Kernel3Ideal.Skeleton
public import Idealize.ShloMosaic.Lib.Pipeline.Frame
public import Idealize.ShloMosaic.Lib.Pipeline.FrameBody
public import Idealize.ShloMosaic.Lib.Tactic
public import Idealize.ShloMosaic.Lib.WordCmp

@[expose] public section

set_option maxRecDepth 16384

noncomputable section

namespace Cert.Exp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body run on its buffers: the table, the inputs' blocks and the scratch weights at given contents, the output's
    block at anything. The contents it leaves are the four components the run finds. -/
def bodyRun (c : Dev nD) (i : grid0.Coords) (arg2 : Memref sig .tc .smem S16 .i32) (harg2 : arg2.IsWhole)
    (arg3 : Memref sig .tc .vmem S1x512x1024 .bf16) (harg3 : arg3.IsWhole) (arg4 : Memref sig .tc .vmem S1x1024x512 .f32) (harg4 : arg4.IsWhole)
    (arg5 : Memref sig .tc .vmem S1x1024x512 .f32) (harg5 : arg5.IsWhole) (arg6 : Memref sig .tc .vmem S1x512x1024 .f32) (harg6 : arg6.IsWhole)
    (arg7 : Memref sig .tc .vmem S1x512x1024 .bf16) (harg7 : arg7.IsWhole) (arg8 : Memref sig .tc .vmem S2x4x1024x512 .bf16) (harg8 : arg8.IsWhole)
    (arg9 : Memref sig .tc .vmem S2x4x1024x512 .bf16) (harg9 : arg9.IsWhole) (arg10 : Memref sig .tc .vmem S2x4x512x1024 .bf16) (harg10 : arg10.IsWhole)
    (q : PosShare TreeShare) (f2 : arg2.view.ty.Contents (Elt F)) (f3 : arg3.view.ty.Contents (Elt F)) (f4 : arg4.view.ty.Contents (Elt F))
    (f5 : arg5.view.ty.Contents (Elt F)) (f6 : arg6.view.ty.Contents (Elt F)) (f7 : arg7.view.ty.Contents (Elt F))
    (f8 : arg8.view.ty.Contents (Elt F)) (f9 : arg9.view.ty.Contents (Elt F)) (f10 : arg10.view.ty.Contents (Elt F)) :
    { r : arg7.view.ty.Contents (Elt F) × arg8.view.ty.Contents (Elt F) × arg9.view.ty.Contents (Elt F) × arg10.view.ty.Contents (Elt F) //
      ∀ (E : Set ℕ) (K : PUnit → sProp 𝕄),
        iprop((arg2.view.loc (c : Thread nD τ) ↦[arg2.view.set]{q} f2) ∗ (arg3.view.loc (c : Thread nD τ) ↦[arg3.view.set]{fullShare} f3)
            ∗ (arg4.view.loc (c : Thread nD τ) ↦[arg4.view.set]{fullShare} f4) ∗ (arg5.view.loc (c : Thread nD τ) ↦[arg5.view.set]{fullShare} f5)
            ∗ (arg6.view.loc (c : Thread nD τ) ↦[arg6.view.set]{fullShare} f6) ∗ (arg7.view.loc (c : Thread nD τ) ↦[arg7.view.set]{fullShare} f7)
            ∗ (arg8.view.loc (c : Thread nD τ) ↦[arg8.view.set]{fullShare} f8) ∗ (arg9.view.loc (c : Thread nD τ) ↦[arg9.view.set]{fullShare} f9)
            ∗ (arg10.view.loc (c : Thread nD τ) ↦[arg10.view.set]{fullShare} f10)
            ∗ (iprop((arg2.view.loc (c : Thread nD τ) ↦[arg2.view.set]{q} f2) ∗ (arg3.view.loc (c : Thread nD τ) ↦[arg3.view.set]{fullShare} f3)
                ∗ (arg4.view.loc (c : Thread nD τ) ↦[arg4.view.set]{fullShare} f4) ∗ (arg5.view.loc (c : Thread nD τ) ↦[arg5.view.set]{fullShare} f5)
                ∗ (arg6.view.loc (c : Thread nD τ) ↦[arg6.view.set]{fullShare} f6) ∗ (arg7.view.loc (c : Thread nD τ) ↦[arg7.view.set]{fullShare} r.1)
                ∗ (arg8.view.loc (c : Thread nD τ) ↦[arg8.view.set]{fullShare} r.2.1) ∗ (arg9.view.loc (c : Thread nD τ) ↦[arg9.view.set]{fullShare} r.2.2.1)
                ∗ (arg10.view.loc (c : Thread nD τ) ↦[arg10.view.set]{fullShare} r.2.2.2)) -∗ K ⟨⟩))
          ⊢ wp frame (wpE (defs₀ (F := F)) Variants.none c none) E
              (cc0_expert_ffn i arg2 harg2 arg3 harg3 arg4 harg4 arg5 harg5 arg6 harg6 arg7 harg7 arg8 harg8 arg9 harg9 arg10 harg10) K } := by
  refine ⟨⟨?_, ?_, ?_, ?_⟩, fun E K => ?run⟩
  case run =>
    simp only [cc0_expert_ffn_eq_skeleton]; unfold cc0_expert_ffn_skel
    simp only [k0_part1_eq_skeleton, k0_part2_eq_skeleton, k0_part3_eq_skeleton, k0_part4_eq_skeleton, k0_part5_eq_skeleton, k0_part6_eq_skeleton,
      k0_part7_eq_skeleton]
    iintro ⟨H2, H3, H4, H5, H6, H7, H8, H9, H10, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Exp

end
-- ==== Proof.Exp.Grid.lean ====
/-
  The experts' grid: 17 rounds of 13 steps. What the body's conditions and offsets are at each point.
-/
module

public import proofs.«01_k».proof.Proof.Gen.Kernel3Ideal.Launch
public import Idealize.ShloMosaic.Lib.WordCmp

@[expose] public section

set_option maxRecDepth 16384

noncomputable section

namespace Cert.Exp

open Cert.Kernel3Ideal Cert.Kernel3Ideal.Gen Idealize.ShloMosaic

/-- The gate weights' chunks are filled at steps 0 to 3 of a round, at the round's parity. -/
theorem fill8 : ∀ t : Fin grid0.N,
    (k0_cond1 (grid0.coords t) = 1#1 ↔ t.val % 13 = 0 ∧ t.val / 13 < 16) ∧ (k0_cond2 (grid0.coords t) = 1#1 ↔ t.val % 13 = 1 ∧ t.val / 13 < 16)
    ∧ (k0_cond3 (grid0.coords t) = 1#1 ↔ t.val % 13 = 2 ∧ t.val / 13 < 16) ∧ (k0_cond4 (grid0.coords t) = 1#1 ↔ t.val % 13 = 3 ∧ t.val / 13 < 16)
    ∧ k0_off1 (grid0.coords t) = ![t.val / 13 % 2, 0, 0, 0] ∧ k0_off2 (grid0.coords t) = ![t.val / 13 % 2, 1, 0, 0]
    ∧ k0_off3 (grid0.coords t) = ![t.val / 13 % 2, 2, 0, 0] ∧ k0_off4 (grid0.coords t) = ![t.val / 13 % 2, 3, 0, 0] := by
  decide +kernel

/-- The up weights' chunks are filled at steps 4 to 7. -/
theorem fill9 : ∀ t : Fin grid0.N,
    (k0_cond5 (grid0.coords t) = 1#1 ↔ t.val % 13 = 4 ∧ t.val / 13 < 16) ∧ (k0_cond6 (grid0.coords t) = 1#1 ↔ t.val % 13 = 5 ∧ t.val / 13 < 16)
    ∧ (k0_cond7 (grid0.coords t) = 1#1 ↔ t.val % 13 = 6 ∧ t.val / 13 < 16) ∧ (k0_cond8 (grid0.coords t) = 1#1 ↔ t.val % 13 = 7 ∧ t.val / 13 < 16)
    ∧ k0_off5 (grid0.coords t) = ![t.val / 13 % 2, 0, 0, 0] ∧ k0_off6 (grid0.coords t) = ![t.val / 13 % 2, 1, 0, 0]
    ∧ k0_off7 (grid0.coords t) = ![t.val / 13 % 2, 2, 0, 0] ∧ k0_off8 (grid0.coords t) = ![t.val / 13 % 2, 3, 0, 0] := by
  decide +kernel

/-- The down weights' chunks are filled at steps 8 to 11. -/
theorem fill10 : ∀ t : Fin grid0.N,
    (k0_cond9 (grid0.coords t) = 1#1 ↔ t.val % 13 = 8 ∧ t.val / 13 < 16) ∧ (k0_cond10 (grid0.coords t) = 1#1 ↔ t.val % 13 = 9 ∧ t.val / 13 < 16)
    ∧ (k0_cond11 (grid0.coords t) = 1#1 ↔ t.val % 13 = 10 ∧ t.val / 13 < 16) ∧ (k0_cond12 (grid0.coords t) = 1#1 ↔ t.val % 13 = 11 ∧ t.val / 13 < 16)
    ∧ k0_off9 (grid0.coords t) = ![t.val / 13 % 2, 0, 0, 0] ∧ k0_off10 (grid0.coords t) = ![t.val / 13 % 2, 1, 0, 0]
    ∧ k0_off11 (grid0.coords t) = ![t.val / 13 % 2, 2, 0, 0] ∧ k0_off12 (grid0.coords t) = ![t.val / 13 % 2, 3, 0, 0] := by
  decide +kernel

/-- The weights are used at the other parity, chunk by chunk; the table word is the previous round's expert's. -/
theorem uses : ∀ t : Fin grid0.N,
    k0_off13 (grid0.coords t) = ![t.val / 13 - 1]
    ∧ k0_off14 (grid0.coords t) = ![1 - t.val / 13 % 2, 0, 0, 0] ∧ k0_off15 (grid0.coords t) = ![1 - t.val / 13 % 2, 0, 0, 0]
    ∧ k0_off16 (grid0.coords t) = ![1 - t.val / 13 % 2, 1, 0, 0] ∧ k0_off17 (grid0.coords t) = ![1 - t.val / 13 % 2, 1, 0, 0]
    ∧ k0_off18 (grid0.coords t) = ![1 - t.val / 13 % 2, 2, 0, 0] ∧ k0_off19 (grid0.coords t) = ![1 - t.val / 13 % 2, 2, 0, 0]
    ∧ k0_off20 (grid0.coords t) = ![1 - t.val / 13 % 2, 3, 0, 0] ∧ k0_off21 (grid0.coords t) = ![1 - t.val / 13 % 2, 3, 0, 0]
    ∧ k0_off22 (grid0.coords t) = ![1 - t.val / 13 % 2, 0, 0, 0] ∧ k0_off23 (grid0.coords t) = ![1 - t.val / 13 % 2, 0, 0, 0]
    ∧ k0_off24 (grid0.coords t) = ![1 - t.val / 13 % 2, 1, 0, 0] ∧ k0_off25 (grid0.coords t) = ![1 - t.val / 13 % 2, 1, 0, 0]
    ∧ k0_off26 (grid0.coords t) = ![1 - t.val / 13 % 2, 2, 0, 0] ∧ k0_off27 (grid0.coords t) = ![1 - t.val / 13 % 2, 2, 0, 0]
    ∧ k0_off28 (grid0.coords t) = ![1 - t.val / 13 % 2, 3, 0, 0] ∧ k0_off29 (grid0.coords t) = ![1 - t.val / 13 % 2, 3, 0, 0] := by
  decide +kernel

/-- A grid point's two coordinates: its round and its step. -/
theorem coords_eq : ∀ t : Fin grid0.N, (grid0.coords t 0).val = t.val / 13 ∧ (grid0.coords t 1).val = t.val % 13 := by
  decide +kernel

/-- The rows still to do at a point, of an expert that has `v` of them. -/
def live (t : Nat) (v : BitVec 32) : BitVec 32 := if 0 < t / 13 then v - BitVec.ofNat 32 (t % 13) * 512#32 else 0#32

/-- A one-bit word widened is nonzero exactly when it is set. -/
theorem widen_ne : ∀ b : BitVec 1, Scalar.cmpi .ne (Scalar.extui b : BitVec 32) 0#32 = b := by
  decide

/-- Signed comparisons as comparisons of integers. -/
theorem sgt_iff (x y : BitVec 32) : Scalar.cmpi .sgt x y = 1#1 ↔ y.toInt < x.toInt := WordCmp.ofBool_decide_eq_one_iff _
theorem sle_iff (x y : BitVec 32) : Scalar.cmpi .sle x y = 1#1 ↔ x.toInt ≤ y.toInt := WordCmp.ofBool_decide_eq_one_iff _

/-- Both of two one-bit words. -/
theorem both_iff : ∀ x y : BitVec 1, Scalar.andi x y = 1#1 ↔ x = 1#1 ∧ y = 1#1 := by
  decide

/-- The rows left are those of the previous round's expert, and none are in the first round. -/
theorem live_bits : ∀ t : Fin grid0.N, Scalar.andi (Scalar.cmpi .sgt (BitVec.ofNat 32 (grid0.coords t 0).val) 0#32)
      (Scalar.cmpi .slt (BitVec.ofNat 32 (grid0.coords t 1).val) 13#32) = (if 0 < t.val / 13 then 1#1 else 0#1)
    ∧ Scalar.cmpi .slt (BitVec.ofNat 32 (grid0.coords t 1).val) 13#32 = 1#1 := by
  decide +kernel

/-- The three cases of a point: the whole tile, its first half, or zeros. -/
theorem cases_iff (t : Fin grid0.N) (v : BitVec 32) :
    (k0_cond13 (grid0.coords t) v = 1#1 ↔ 256 < (live t.val v).toInt)
    ∧ (k0_cond14 (grid0.coords t) v = 1#1 ↔ 0 < (live t.val v).toInt ∧ (live t.val v).toInt ≤ 256)
    ∧ (k0_cond15 (grid0.coords t) v = 1#1 ↔ (live t.val v).toInt ≤ 0) := by
  obtain ⟨h0, h1⟩ := live_bits t
  have e1 := (coords_eq t).2
  have hl : Scalar.select (Scalar.andi (Scalar.cmpi .sgt (BitVec.ofNat 32 (grid0.coords t 0).val) 0#32)
      (Scalar.cmpi .slt (BitVec.ofNat 32 (grid0.coords t 1).val) 13#32))
      (Scalar.subi v (Scalar.muli (BitVec.ofNat 32 (grid0.coords t 1).val) 512#32)) 0#32 = live t.val v := by
    rw [h0, e1]
    unfold live
    by_cases h : 0 < t.val / 13
    · rw [if_pos h, if_pos h]; rfl
    · rw [if_neg h, if_neg h]; rfl
  unfold k0_cond13 k0_cond14 k0_cond15
  dsimp only
  rw [hl, h1]
  generalize live t.val v = w
  rw [widen_ne, widen_ne, widen_ne, both_iff, both_iff, sgt_iff, sgt_iff, sle_iff, sle_iff]
  exact ⟨Iff.rfl, Iff.rfl, and_iff_left rfl⟩

end Cert.Exp

end
-- ==== Proof.Exp.Scratch.lean ====
/-
  The experts' scratch weights: what one point's fill leaves, read at an index, and what stays true of the two halves from
  point to point.
-/
module

public import proofs.«01_k».proof.Proof.Exp.Grid
public import Idealize.ShloMosaic.Lib.WritesUnit
public import Idealize.ShloMosaic.Lib.Pointwise

@[expose] public section

set_option maxRecDepth 16384

noncomputable section

namespace Cert.Exp

open Idealize.ShloMosaic

section Fill

variable {sig : RefSig} {κ : Kind} {sp : Space} {e : EltTy} {Val : EltTy → Type} {A B : ℕ}

/-- A load of a whole block, its offsets all zero, reads the block. -/
theorem readAt_zero {s : Shape} (v : View sig κ sp s e) (f : v.ty.Contents Val) (off : Fin s.rank → ℕ) (h : ∀ a, off a = 0)
    (inb : ∀ a, off a + s.size a ≤ s.size a) : v.readAt Val (Rect.unit off s.size inb).toLoadRect f = v.read Val f :=
  funext fun x => congrArg (v.read Val f) (funext fun a => Fin.ext (by
    show off a + 1 * (x a).val = (x a).val
    rw [h a]; omega))

/-- One conditional fill of a chunk `k` of half `p`, read at an index: the payload on the chunk, the old contents off it. -/
theorem fill_apply (v : View sig κ sp ⟨4, ![2, 4, A, B]⟩ e) (f : v.ty.Contents Val) {hc Q : Prop} [Decidable hc] [Decidable Q] (hQ : hc ↔ Q)
    {off : Fin 4 → ℕ} (p k : ℕ) (ho : off = ![p, k, 0, 0])
    (inb : hc → ∀ a, off a + (⟨4, ![1, 1, A, B]⟩ : Shape).size a ≤ (⟨4, ![2, 4, A, B]⟩ : Shape).size a)
    (w : (⟨4, ![1, 1, A, B]⟩ : Shape).Idx → Val e) (y : (⟨4, ![2, 4, A, B]⟩ : Shape).Idx) :
    v.read Val (if h : hc then v.writes Val f [⟨Rect.unit off (⟨4, ![1, 1, A, B]⟩ : Shape).size (inb h), w⟩] else f) y
      = if Q ∧ (y 0).val = p ∧ (y 1).val = k then w (ix4 0 0 (y 2) (y 3)) else v.read Val f y := by
  by_cases h : hc
  · rw [dif_pos h]
    have q := hQ.mp h
    by_cases h0 : (y 0).val = p
    · by_cases h1 : (y 1).val = k
      · rw [if_pos ⟨q, h0, h1⟩]
        refine View.read_writes_cons_unit_of_mem v f (inb h) w [] y (ix4 0 0 (y 2) (y 3)) ho fun a => ?_
        match a with
        | ⟨0, _⟩ => exact h0
        | ⟨1, _⟩ => exact h1
        | ⟨2, _⟩ => show (y 2).val = 0 + (y 2).val; omega
        | ⟨3, _⟩ => show (y 3).val = 0 + (y 3).val; omega
      · rw [if_neg fun z => h1 z.2.2]
        refine (View.read_writes_cons_unit_of_not_mem v f (inb h) w [] y ho 1 ?_).trans rfl
        show (y 1).val < k ∨ k + 1 ≤ (y 1).val
        omega
    · rw [if_neg fun z => h0 z.2.1]
      refine (View.read_writes_cons_unit_of_not_mem v f (inb h) w [] y ho 0 ?_).trans rfl
      show (y 0).val < p ∨ p + 1 ≤ (y 0).val
      omega
  · rw [dif_neg h, if_neg fun z => h (hQ.mpr z.1)]

end Fill

section Keep

variable {A B : ℕ} {α : Type}

/-- Before point `n`: the chunks already filled this round hold the round's expert's weights, and the other half all of the
    previous round's. `W x k` is chunk `k` of expert `x`. -/
def Holds (base n : ℕ) (W : ℕ → ℕ → (⟨4, ![1, 1, A, B]⟩ : Shape).Idx → α) (S : (⟨4, ![2, 4, A, B]⟩ : Shape).Idx → α) : Prop :=
  ∀ y : (⟨4, ![2, 4, A, B]⟩ : Shape).Idx,
    (n / 13 < 16 → (y 1).val + base < n % 13 → (y 0).val = n / 13 % 2 → S y = W (n / 13) (y 1).val (ix4 0 0 (y 2) (y 3)))
    ∧ (1 ≤ n / 13 → n / 13 ≤ 16 → (y 0).val = 1 - n / 13 % 2 → S y = W (n / 13 - 1) (y 1).val (ix4 0 0 (y 2) (y 3)))

/-- Nothing is asked before the first point. -/
theorem holds_zero (base : ℕ) (W : ℕ → ℕ → (⟨4, ![1, 1, A, B]⟩ : Shape).Idx → α) (S : (⟨4, ![2, 4, A, B]⟩ : Shape).Idx → α) :
    Holds base 0 W S := fun y => ⟨fun _ h _ => absurd h (by omega), fun h _ _ => absurd h (by omega)⟩

/-- What a point leaves: its own chunk filled, the rest as it was. -/
def After (base n : ℕ) (W : ℕ → ℕ → (⟨4, ![1, 1, A, B]⟩ : Shape).Idx → α) (S S' : (⟨4, ![2, 4, A, B]⟩ : Shape).Idx → α) : Prop :=
  ∀ y : (⟨4, ![2, 4, A, B]⟩ : Shape).Idx,
    S' y = if n % 13 = (y 1).val + base ∧ n / 13 < 16 ∧ (y 0).val = n / 13 % 2 then W (n / 13) (y 1).val (ix4 0 0 (y 2) (y 3)) else S y

/-- So the property passes to the next point. -/
theorem holds_succ {base n : ℕ} (hb : base ≤ 8) {W : ℕ → ℕ → (⟨4, ![1, 1, A, B]⟩ : Shape).Idx → α}
    {S S' : (⟨4, ![2, 4, A, B]⟩ : Shape).Idx → α} (h : Holds base n W S) (ha : After base n W S S') : Holds base (n + 1) W S' := by
  intro y
  have h1 : (y 1).val < 4 := (y 1).isLt
  obtain ⟨a, b⟩ := h y
  rw [ha y]
  by_cases j : n % 13 = 12
  · have e : (n + 1) / 13 = n / 13 + 1 := by omega
    have e' : (n + 1) % 13 = 0 := by omega
    rw [e, e']
    refine ⟨fun _ z _ => absurd z (by omega), fun _ g p => ?_⟩
    rw [if_neg (by omega), show n / 13 + 1 - 1 = n / 13 by omega]
    exact a (by omega) (by omega) (by omega)
  · have e : (n + 1) / 13 = n / 13 := by omega
    have e' : (n + 1) % 13 = n % 13 + 1 := by omega
    rw [e, e']
    refine ⟨fun g z p => ?_, fun g z p => ?_⟩
    · by_cases k : n % 13 = (y 1).val + base
      · rw [if_pos ⟨k, g, p⟩]
      · rw [if_neg fun q => k q.1]
        exact a g (by omega) p
    · rw [if_neg (by omega)]
      exact b g z p

/-- What a point uses: the previous round's expert's chunk. -/
theorem used {base n : ℕ} {W : ℕ → ℕ → (⟨4, ![1, 1, A, B]⟩ : Shape).Idx → α}
    {S S' : (⟨4, ![2, 4, A, B]⟩ : Shape).Idx → α} (h : Holds base n W S) (ha : After base n W S S') (g : 1 ≤ n / 13) (g' : n / 13 ≤ 16)
    (k : Fin 4) {off : Fin 4 → ℕ} (ho : off = ![1 - n / 13 % 2, k.val, 0, 0])
    (inb : ∀ a, off a + (⟨4, ![1, 1, A, B]⟩ : Shape).size a ≤ (⟨4, ![2, 4, A, B]⟩ : Shape).size a) :
    (fun x => S' ((Rect.unit (s := ⟨4, ![2, 4, A, B]⟩) off (⟨4, ![1, 1, A, B]⟩ : Shape).size inb).toLoadRect.idx x)) = W (n / 13 - 1) k.val := by
  subst ho
  funext x
  have x0 : (x 0).val = 0 := Nat.lt_one_iff.mp (x 0).isLt
  have x1 : (x 1).val = 0 := Nat.lt_one_iff.mp (x 1).isLt
  have e : (Rect.unit (s := ⟨4, ![2, 4, A, B]⟩) ![1 - n / 13 % 2, k.val, 0, 0] (⟨4, ![1, 1, A, B]⟩ : Shape).size inb).toLoadRect.idx x
      = (ix4 ⟨1 - n / 13 % 2, by omega⟩ k (x 2) (x 3) : (⟨4, ![2, 4, A, B]⟩ : Shape).Idx) := by
    refine funext fun a => Fin.ext ?_
    match a with
    | ⟨0, _⟩ => show 1 - n / 13 % 2 + 1 * (x 0).val = 1 - n / 13 % 2; omega
    | ⟨1, _⟩ => show k.val + 1 * (x 1).val = k.val; omega
    | ⟨2, _⟩ => show 0 + 1 * (x 2).val = (x 2).val; omega
    | ⟨3, _⟩ => show 0 + 1 * (x 3).val = (x 3).val; omega
  rw [e, ha _, if_neg]
  · refine ((h _).2 g g' rfl).trans (congrArg (W (n / 13 - 1) k.val) (funext fun a => ?_))
    match a with
    | ⟨0, _⟩ => exact Fin.ext x0.symm
    | ⟨1, _⟩ => exact Fin.ext x1.symm
    | ⟨2, _⟩ => rfl
    | ⟨3, _⟩ => rfl
  · rintro ⟨-, -, p⟩
    have p' : 1 - n / 13 % 2 = n / 13 % 2 := p
    omega

end Keep

end Cert.Exp

end
-- ==== Proof.Exp.Out.lean ====
/-
  The experts' body: what the contents it leaves read, given the blocks and the weights that it finds.
-/
module

public import proofs.«01_k».proof.Proof.Exp.Body
public import proofs.«01_k».proof.Proof.Exp.Scratch

@[expose] public section

set_option maxRecDepth 16384

noncomputable section

namespace Cert.Exp

open Cert.Kernel3Ideal Cert.Kernel3Ideal.Gen Idealize.ShloMosaic Idealize.SL Idealize.SL.RA

variable {F : FTy → Type} [FloatOps F]

abbrev BlkA (F : FTy → Type) := Vec F S1x1x1024x512 .bf16
abbrev BlkD (F : FTy → Type) := Vec F S1x1x512x1024 .bf16

/-- The scratch gate weights after one point's fills. -/
def cont8 (i : grid0.Coords) (arg4 : Memref sig .tc .vmem S1x1024x512 .f32) (arg8 : Memref sig .tc .vmem S2x4x1024x512 .bf16)
    (f4 : arg4.view.ty.Contents (Elt F)) (f8 : arg8.view.ty.Contents (Elt F)) : arg8.view.ty.Contents (Elt F) :=
  let X := View.readAt (Elt F) arg4.view (Rect.unit ![0, 0, 0] S1x1024x512.size inb_S1x1024x512_S1x1024x512_0_0_0).toLoadRect f4
  let g1 := if h : k0_cond1 i = 1#1 then arg8.view.writes (Elt F) f8 [⟨Rect.unit (k0_off1 i) S1x1x1024x512.size (k0_off1_inb i h), k0_pay14 X⟩] else f8
  let g2 := if h : k0_cond2 i = 1#1 then arg8.view.writes (Elt F) g1 [⟨Rect.unit (k0_off2 i) S1x1x1024x512.size (k0_off2_inb i h), k0_pay15 X⟩] else g1
  let g3 := if h : k0_cond3 i = 1#1 then arg8.view.writes (Elt F) g2 [⟨Rect.unit (k0_off3 i) S1x1x1024x512.size (k0_off3_inb i h), k0_pay16 X⟩] else g2
  if h : k0_cond4 i = 1#1 then arg8.view.writes (Elt F) g3 [⟨Rect.unit (k0_off4 i) S1x1x1024x512.size (k0_off4_inb i h), k0_pay17 X⟩] else g3

/-- The scratch up weights after one point's fills. -/
def cont9 (i : grid0.Coords) (arg5 : Memref sig .tc .vmem S1x1024x512 .f32) (arg9 : Memref sig .tc .vmem S2x4x1024x512 .bf16)
    (f5 : arg5.view.ty.Contents (Elt F)) (f9 : arg9.view.ty.Contents (Elt F)) : arg9.view.ty.Contents (Elt F) :=
  let X := View.readAt (Elt F) arg5.view (Rect.unit ![0, 0, 0] S1x1024x512.size inb_S1x1024x512_S1x1024x512_0_0_0).toLoadRect f5
  let g1 := if h : k0_cond5 i = 1#1 then arg9.view.writes (Elt F) f9 [⟨Rect.unit (k0_off5 i) S1x1x1024x512.size (k0_off5_inb i h), k0_pay18 X⟩] else f9
  let g2 := if h : k0_cond6 i = 1#1 then arg9.view.writes (Elt F) g1 [⟨Rect.unit (k0_off6 i) S1x1x1024x512.size (k0_off6_inb i h), k0_pay19 X⟩] else g1
  let g3 := if h : k0_cond7 i = 1#1 then arg9.view.writes (Elt F) g2 [⟨Rect.unit (k0_off7 i) S1x1x1024x512.size (k0_off7_inb i h), k0_pay20 X⟩] else g2
  if h : k0_cond8 i = 1#1 then arg9.view.writes (Elt F) g3 [⟨Rect.unit (k0_off8 i) S1x1x1024x512.size (k0_off8_inb i h), k0_pay21 X⟩] else g3

/-- The scratch down weights after one point's fills. -/
def cont10 (i : grid0.Coords) (arg6 : Memref sig .tc .vmem S1x512x1024 .f32) (arg10 : Memref sig .tc .vmem S2x4x512x1024 .bf16)
    (f6 : arg6.view.ty.Contents (Elt F)) (f10 : arg10.view.ty.Contents (Elt F)) : arg10.view.ty.Contents (Elt F) :=
  let X := View.readAt (Elt F) arg6.view (Rect.unit ![0, 0, 0] S1x512x1024.size inb_S1x512x1024_S1x512x1024_0_0_0).toLoadRect f6
  let g1 := if h : k0_cond9 i = 1#1 then arg10.view.writes (Elt F) f10 [⟨Rect.unit (k0_off9 i) S1x1x512x1024.size (k0_off9_inb i h), k0_pay22 X⟩] else f10
  let g2 := if h : k0_cond10 i = 1#1 then arg10.view.writes (Elt F) g1 [⟨Rect.unit (k0_off10 i) S1x1x512x1024.size (k0_off10_inb i h), k0_pay23 X⟩] else g1
  let g3 := if h : k0_cond11 i = 1#1 then arg10.view.writes (Elt F) g2 [⟨Rect.unit (k0_off11 i) S1x1x512x1024.size (k0_off11_inb i h), k0_pay24 X⟩] else g2
  if h : k0_cond12 i = 1#1 then arg10.view.writes (Elt F) g3 [⟨Rect.unit (k0_off12 i) S1x1x512x1024.size (k0_off12_inb i h), k0_pay25 X⟩] else g3

theorem zero3 : ∀ a : Fin 3, (![0, 0, 0] : Fin 3 → ℕ) a = 0 := by decide

/-- Each point leaves its own gate chunk filled and the rest as it was. -/
theorem after8 (t : Fin grid0.N) (arg4 : Memref sig .tc .vmem S1x1024x512 .f32) (arg8 : Memref sig .tc .vmem S2x4x1024x512 .bf16)
    (f4 : arg4.view.ty.Contents (Elt F)) (f8 : arg8.view.ty.Contents (Elt F)) (W : ℕ → ℕ → BlkA F)
    (hW : t.val / 13 < 16 → t.val % 13 < 4 → k0_pay14 (arg4.view.read (Elt F) f4) = W (t.val / 13) (t.val % 13)) :
    After 0 t.val W (arg8.view.read (Elt F) f8) (arg8.view.read (Elt F) (cont8 (grid0.coords t) arg4 arg8 f4 f8)) := by
  obtain ⟨c1, c2, c3, c4, o1, o2, o3, o4⟩ := fill8 t
  intro y
  have y1 : (y 1).val < 4 := (y 1).isLt
  unfold cont8
  dsimp only
  refine (fill_apply arg8.view _ c4 _ _ o4 _ _ y).trans ?_
  rw [fill_apply arg8.view _ c3 _ _ o3 _ _ y, fill_apply arg8.view _ c2 _ _ o2 _ _ y, fill_apply arg8.view _ c1 _ _ o1 _ _ y,
    readAt_zero arg4.view f4 _ zero3]
  by_cases h : t.val % 13 = (y 1).val + 0 ∧ t.val / 13 < 16 ∧ (y 0).val = t.val / 13 % 2
  · rw [if_pos h, show (y 1).val = t.val % 13 from by omega, ← hW h.2.1 (by omega)]
    split_ifs <;> first | rfl | omega
  · rw [if_neg h]
    split_ifs <;> first | rfl | omega

/-- The same of the up chunks. -/
theorem after9 (t : Fin grid0.N) (arg5 : Memref sig .tc .vmem S1x1024x512 .f32) (arg9 : Memref sig .tc .vmem S2x4x1024x512 .bf16)
    (f5 : arg5.view.ty.Contents (Elt F)) (f9 : arg9.view.ty.Contents (Elt F)) (W : ℕ → ℕ → BlkA F)
    (hW : t.val / 13 < 16 → 4 ≤ t.val % 13 → t.val % 13 < 8 → k0_pay14 (arg5.view.read (Elt F) f5) = W (t.val / 13) (t.val % 13 - 4)) :
    After 4 t.val W (arg9.view.read (Elt F) f9) (arg9.view.read (Elt F) (cont9 (grid0.coords t) arg5 arg9 f5 f9)) := by
  obtain ⟨c1, c2, c3, c4, o1, o2, o3, o4⟩ := fill9 t
  intro y
  have y1 : (y 1).val < 4 := (y 1).isLt
  unfold cont9
  dsimp only
  refine (fill_apply arg9.view _ c4 _ _ o4 _ _ y).trans ?_
  rw [fill_apply arg9.view _ c3 _ _ o3 _ _ y, fill_apply arg9.view _ c2 _ _ o2 _ _ y, fill_apply arg9.view _ c1 _ _ o1 _ _ y,
    readAt_zero arg5.view f5 _ zero3]
  by_cases h : t.val % 13 = (y 1).val + 4 ∧ t.val / 13 < 16 ∧ (y 0).val = t.val / 13 % 2
  · rw [if_pos h, show (y 1).val = t.val % 13 - 4 from by omega, ← hW h.2.1 (by omega) (by omega)]
    split_ifs <;> first | rfl | omega
  · rw [if_neg h]
    split_ifs <;> first | rfl | omega

/-- The same of the down chunks. -/
theorem after10 (t : Fin grid0.N) (arg6 : Memref sig .tc .vmem S1x512x1024 .f32) (arg10 : Memref sig .tc .vmem S2x4x512x1024 .bf16)
    (f6 : arg6.view.ty.Contents (Elt F)) (f10 : arg10.view.ty.Contents (Elt F)) (W : ℕ → ℕ → BlkD F)
    (hW : t.val / 13 < 16 → 8 ≤ t.val % 13 → t.val % 13 < 12 → k0_pay22 (arg6.view.read (Elt F) f6) = W (t.val / 13) (t.val % 13 - 8)) :
    After 8 t.val W (arg10.view.read (Elt F) f10) (arg10.view.read (Elt F) (cont10 (grid0.coords t) arg6 arg10 f6 f10)) := by
  obtain ⟨c1, c2, c3, c4, o1, o2, o3, o4⟩ := fill10 t
  intro y
  have y1 : (y 1).val < 4 := (y 1).isLt
  unfold cont10
  dsimp only
  refine (fill_apply arg10.view _ c4 _ _ o4 _ _ y).trans ?_
  rw [fill_apply arg10.view _ c3 _ _ o3 _ _ y, fill_apply arg10.view _ c2 _ _ o2 _ _ y, fill_apply arg10.view _ c1 _ _ o1 _ _ y,
    readAt_zero arg6.view f6 _ zero3]
  by_cases h : t.val % 13 = (y 1).val + 8 ∧ t.val / 13 < 16 ∧ (y 0).val = t.val / 13 % 2
  · rw [if_pos h, show (y 1).val = t.val % 13 - 8 from by omega, ← hW h.2.1 (by omega) (by omega)]
    split_ifs <;> first | rfl | omega
  · rw [if_neg h]
    split_ifs <;> first | rfl | omega

/-- A whole tile: the four chunks' sums, in order. -/
def outFull (X : Vec F S1x512x1024 .bf16) (A U : ℕ → BlkA F) (D : ℕ → BlkD F) : Vec F S1x512x1024 .bf16 :=
  k0_pay26 (k0_pay2 X) (k0_pay6 (k0_pay2 X) (k0_pay3 X (A 0) (U 0) (D 0)) (k0_pay4 X (A 1)) (k0_pay5 (U 1)) (constant S512x512 .f32 0x00000000#32) (D 1))
    (k0_pay7 (k0_pay2 X) (A 2) (U 2) (D 2)) (A 3) (U 3) (D 3)

/-- The first half of a tile's rows. -/
def firstHalf (X : Vec F S1x512x1024 .bf16) : Vec F S1x256x1024 .bf16 :=
  fun x => X ((Rect.unit (s := S1x512x1024) ![0, 0, 0] S1x256x1024.size inb_S1x512x1024_S1x256x1024_0_0_0).toLoadRect.idx x)

/-- The first half of a tile: the four chunks' sums on it. -/
def outTop (X : Vec F S1x512x1024 .bf16) (A U : ℕ → BlkA F) (D : ℕ → BlkD F) : Vec F S1x256x1024 .bf16 :=
  k0_pay27 (k0_pay8 (firstHalf X)) (k0_pay12 (k0_pay8 (firstHalf X)) (k0_pay9 (firstHalf X) (A 0) (U 0) (D 0)) (k0_pay10 (firstHalf X) (A 1))
      (k0_pay11 (U 1)) (constant S256x512 .f32 0x00000000#32) (D 1))
    (k0_pay13 (k0_pay8 (firstHalf X)) (A 2) (U 2) (D 2)) (A 3) (U 3) (D 3)

/-- A tile of which the first half is computed and the second is zeros. -/
def outHalf (X : Vec F S1x512x1024 .bf16) (A U : ℕ → BlkA F) (D : ℕ → BlkD F) : Vec F S1x512x1024 .bf16 := fun y =>
  if h : (y 1).val < 256 then outTop X A U D (ix3 0 ⟨(y 1).val, h⟩ (y 2)) else k0_pay28 (ix3 0 ⟨(y 1).val - 256, by
    have h1 : (y 1).val < 512 := (y 1).isLt
    omega⟩ (y 2))

/-- What point `t` writes, of the previous round's expert of `v` rows. -/
def outOf (t : ℕ) (v : BitVec 32) (X : Vec F S1x512x1024 .bf16) (A U : ℕ → BlkA F) (D : ℕ → BlkD F) : Vec F S1x512x1024 .bf16 :=
  if (live t v).toInt ≤ 0 then k0_pay1 else if (live t v).toInt ≤ 256 then outHalf X A U D else outFull X A U D

/-- The table word that a point reads. -/
theorem word_eq (t : Fin grid0.N) (arg2 : Memref sig .tc .smem S16 .i32) (f2 : arg2.view.ty.Contents (Elt F)) :
    bodyRun.sl.r (grid0.coords t) arg2 f2 = arg2.view.read (Elt F) f2 (ix1 ⟨t.val / 13 - 1, by
      have h : t.val < 221 := t.isLt
      omega⟩) := by
  unfold bodyRun.sl.r
  rw [View.readAt_apply]
  refine congrArg (arg2.view.read (Elt F) f2) (funext fun a => Fin.ext ?_)
  match a with
  | ⟨0, _⟩ =>
    show k0_off13 (grid0.coords t) 0 + 1 * 0 = t.val / 13 - 1
    rw [(uses t).1]
    show t.val / 13 - 1 + 1 * 0 = t.val / 13 - 1
    omega

section Run

variable (t : Fin grid0.N) (arg2 : Memref sig .tc .smem S16 .i32) (harg2 : arg2.IsWhole)
    (arg3 : Memref sig .tc .vmem S1x512x1024 .bf16) (harg3 : arg3.IsWhole) (arg4 : Memref sig .tc .vmem S1x1024x512 .f32) (harg4 : arg4.IsWhole)
    (arg5 : Memref sig .tc .vmem S1x1024x512 .f32) (harg5 : arg5.IsWhole) (arg6 : Memref sig .tc .vmem S1x512x1024 .f32) (harg6 : arg6.IsWhole)
    (arg7 : Memref sig .tc .vmem S1x512x1024 .bf16) (harg7 : arg7.IsWhole) (arg8 : Memref sig .tc .vmem S2x4x1024x512 .bf16) (harg8 : arg8.IsWhole)
    (arg9 : Memref sig .tc .vmem S2x4x1024x512 .bf16) (harg9 : arg9.IsWhole) (arg10 : Memref sig .tc .vmem S2x4x512x1024 .bf16) (harg10 : arg10.IsWhole)
    (q : PosShare TreeShare) (f2 : arg2.view.ty.Contents (Elt F)) (f3 : arg3.view.ty.Contents (Elt F)) (f4 : arg4.view.ty.Contents (Elt F))
    (f5 : arg5.view.ty.Contents (Elt F)) (f6 : arg6.view.ty.Contents (Elt F)) (f7 : arg7.view.ty.Contents (Elt F))
    (f8 : arg8.view.ty.Contents (Elt F)) (f9 : arg9.view.ty.Contents (Elt F)) (f10 : arg10.view.ty.Contents (Elt F))
    (W8 W9 : ℕ → ℕ → BlkA F) (W10 : ℕ → ℕ → BlkD F)
    (h8 : Holds 0 t.val W8 (arg8.view.read (Elt F) f8)) (h9 : Holds 4 t.val W9 (arg9.view.read (Elt F) f9))
    (h10 : Holds 8 t.val W10 (arg10.view.read (Elt F) f10))
    (a8 : After 0 t.val W8 (arg8.view.read (Elt F) f8) (arg8.view.read (Elt F) (cont8 (grid0.coords t) arg4 arg8 f4 f8)))
    (a9 : After 4 t.val W9 (arg9.view.read (Elt F) f9) (arg9.view.read (Elt F) (cont9 (grid0.coords t) arg5 arg9 f5 f9)))
    (a10 : After 8 t.val W10 (arg10.view.read (Elt F) f10) (arg10.view.read (Elt F) (cont10 (grid0.coords t) arg6 arg10 f6 f10)))

include h8 h9 h10 a8 a9 a10

/-- The weights that a whole tile is computed with: the previous round's expert's, chunk by chunk. -/
theorem uses_full (g : 1 ≤ t.val / 13) (g' : t.val / 13 ≤ 16) :
    bodyRun.sl.v108 (grid0.coords t) arg4 arg8 f4 f8 = W8 (t.val / 13 - 1) 0
    ∧ bodyRun.sl.v112 (grid0.coords t) arg5 arg9 f5 f9 = W9 (t.val / 13 - 1) 0
    ∧ bodyRun.sl.v126 (grid0.coords t) arg6 arg10 f6 f10 = W10 (t.val / 13 - 1) 0
    ∧ bodyRun.sl.v131 (grid0.coords t) arg4 arg8 f4 f8 = W8 (t.val / 13 - 1) 1
    ∧ bodyRun.sl.v135 (grid0.coords t) arg5 arg9 f5 f9 = W9 (t.val / 13 - 1) 1
    ∧ bodyRun.sl.v149 (grid0.coords t) arg6 arg10 f6 f10 = W10 (t.val / 13 - 1) 1
    ∧ bodyRun.sl.v154 (grid0.coords t) arg4 arg8 f4 f8 = W8 (t.val / 13 - 1) 2
    ∧ bodyRun.sl.v158 (grid0.coords t) arg5 arg9 f5 f9 = W9 (t.val / 13 - 1) 2
    ∧ bodyRun.sl.v172 (grid0.coords t) arg6 arg10 f6 f10 = W10 (t.val / 13 - 1) 2
    ∧ bodyRun.sl.v177 (grid0.coords t) arg4 arg8 f4 f8 = W8 (t.val / 13 - 1) 3
    ∧ bodyRun.sl.v181 (grid0.coords t) arg5 arg9 f5 f9 = W9 (t.val / 13 - 1) 3
    ∧ bodyRun.sl.v195 (grid0.coords t) arg6 arg10 f6 f10 = W10 (t.val / 13 - 1) 3 := by
  obtain ⟨-, o14, o15, o16, o17, o18, o19, o20, o21, -⟩ := uses t
  exact ⟨used h8 a8 g g' 0 o14 (k0_off14_inb _), used h9 a9 g g' 0 o14 (k0_off14_inb _), used h10 a10 g g' 0 o15 (k0_off15_inb _), used h8 a8 g g' 1 o16 (k0_off16_inb _), used h9 a9 g g' 1 o16 (k0_off16_inb _), used h10 a10 g g' 1 o17 (k0_off17_inb _), used h8 a8 g g' 2 o18 (k0_off18_inb _), used h9 a9 g g' 2 o18 (k0_off18_inb _), used h10 a10 g g' 2 o19 (k0_off19_inb _), used h8 a8 g g' 3 o20 (k0_off20_inb _), used h9 a9 g g' 3 o20 (k0_off20_inb _), used h10 a10 g g' 3 o21 (k0_off21_inb _)⟩

/-- The weights that a half tile is computed with: the same. -/
theorem uses_half (g : 1 ≤ t.val / 13) (g' : t.val / 13 ≤ 16) :
    bodyRun.sl.v108_1 (grid0.coords t) arg4 arg8 f4 f8 = W8 (t.val / 13 - 1) 0
    ∧ bodyRun.sl.v112_1 (grid0.coords t) arg5 arg9 f5 f9 = W9 (t.val / 13 - 1) 0
    ∧ bodyRun.sl.v126_1 (grid0.coords t) arg6 arg10 f6 f10 = W10 (t.val / 13 - 1) 0
    ∧ bodyRun.sl.v131_1 (grid0.coords t) arg4 arg8 f4 f8 = W8 (t.val / 13 - 1) 1
    ∧ bodyRun.sl.v135_1 (grid0.coords t) arg5 arg9 f5 f9 = W9 (t.val / 13 - 1) 1
    ∧ bodyRun.sl.v149_1 (grid0.coords t) arg6 arg10 f6 f10 = W10 (t.val / 13 - 1) 1
    ∧ bodyRun.sl.v154_1 (grid0.coords t) arg4 arg8 f4 f8 = W8 (t.val / 13 - 1) 2
    ∧ bodyRun.sl.v158_1 (grid0.coords t) arg5 arg9 f5 f9 = W9 (t.val / 13 - 1) 2
    ∧ bodyRun.sl.v172_1 (grid0.coords t) arg6 arg10 f6 f10 = W10 (t.val / 13 - 1) 2
    ∧ bodyRun.sl.v177_1 (grid0.coords t) arg4 arg8 f4 f8 = W8 (t.val / 13 - 1) 3
    ∧ bodyRun.sl.v181_1 (grid0.coords t) arg5 arg9 f5 f9 = W9 (t.val / 13 - 1) 3
    ∧ bodyRun.sl.v195_1 (grid0.coords t) arg6 arg10 f6 f10 = W10 (t.val / 13 - 1) 3 := by
  obtain ⟨-, -, -, -, -, -, -, -, -, o22, o23, o24, o25, o26, o27, o28, o29⟩ := uses t
  exact ⟨used h8 a8 g g' 0 o22 (k0_off22_inb _), used h9 a9 g g' 0 o22 (k0_off22_inb _), used h10 a10 g g' 0 o23 (k0_off23_inb _), used h8 a8 g g' 1 o24 (k0_off24_inb _), used h9 a9 g g' 1 o24 (k0_off24_inb _), used h10 a10 g g' 1 o25 (k0_off25_inb _), used h8 a8 g g' 2 o26 (k0_off26_inb _), used h9 a9 g g' 2 o26 (k0_off26_inb _), used h10 a10 g g' 2 o27 (k0_off27_inb _), used h8 a8 g g' 3 o28 (k0_off28_inb _), used h9 a9 g g' 3 o28 (k0_off28_inb _), used h10 a10 g g' 3 o29 (k0_off29_inb _)⟩

/-- What the body leaves in the output's block reads: zeros, a half tile or a whole one. -/
theorem out_eq (c : Dev nD) :
    arg7.view.read (Elt F) (bodyRun c (grid0.coords t) arg2 harg2 arg3 harg3 arg4 harg4 arg5 harg5 arg6 harg6 arg7 harg7 arg8 harg8 arg9 harg9
        arg10 harg10 q f2 f3 f4 f5 f6 f7 f8 f9 f10).1.1
      = outOf t.val (arg2.view.read (Elt F) f2 (ix1 ⟨t.val / 13 - 1, by
          have h : t.val < 221 := t.isLt
          omega⟩)) (arg3.view.read (Elt F) f3) (W8 (t.val / 13 - 1)) (W9 (t.val / 13 - 1)) (W10 (t.val / 13 - 1)) := by
  have hN : t.val < 221 := t.isLt
  have hr := word_eq t arg2 f2
  rw [← hr]
  obtain ⟨k13, k14, k15⟩ := cases_iff t (bodyRun.sl.r (grid0.coords t) arg2 f2)
  unfold outOf
  by_cases z : (live t.val (bodyRun.sl.r (grid0.coords t) arg2 f2)).toInt ≤ 0
  · rw [if_pos z]
    show arg7.view.read (Elt F) (dite (k0_cond15 (grid0.coords t) (bodyRun.sl.r (grid0.coords t) arg2 f2) = 1#1) _ _) = _
    rw [dif_pos (k15.mpr z)]
    funext y
    refine View.read_writes_cons_unit_of_mem arg7.view _ _ _ [] y y rfl fun a => ?_
    rw [zero3 a]; omega
  · rw [if_neg z]
    show arg7.view.read (Elt F) (dite (k0_cond15 (grid0.coords t) (bodyRun.sl.r (grid0.coords t) arg2 f2) = 1#1) _ _) = _
    rw [dif_neg fun h => z (k15.mp h)]
    have g : 1 ≤ t.val / 13 := by
      by_contra g
      refine z ?_
      unfold live
      rw [if_neg (by omega)]
      decide
    have g' : t.val / 13 ≤ 16 := by omega
    by_cases y : (live t.val (bodyRun.sl.r (grid0.coords t) arg2 f2)).toInt ≤ 256
    · rw [if_pos y]
      rw [dif_pos (k14.mpr ⟨by omega, y⟩)]
      obtain ⟨e1, e2, e3, e4, e5, e6, e7, e8, e9, e10, e11, e12⟩ := uses_half t arg4 arg5 arg6 arg8 arg9 arg10 f4 f5 f6 f8 f9 f10 W8 W9 W10
        h8 h9 h10 a8 a9 a10 g g'
      unfold bodyRun.sl.r_11 bodyRun.sl.r_12 bodyRun.sl.r_8 bodyRun.sl.r_9 bodyRun.sl.r_10 bodyRun.sl.r_7 bodyRun.sl.cst_70_1
      rw [e1, e2, e3, e4, e5, e6, e7, e8, e9, e10, e11, e12]
      funext x
      have x1 : (x 1).val < 512 := (x 1).isLt
      have x0 : (x 0).val = 0 := Nat.lt_one_iff.mp (x 0).isLt
      unfold outHalf
      by_cases l : (x 1).val < 256
      · rw [dif_pos l]
        refine (View.read_writes_cons_unit_of_not_mem arg7.view _ _ _ _ x rfl 1 ?_).trans ?_
        · exact Or.inl l
        refine View.read_writes_cons_unit_of_mem arg7.view _ _ _ [] x (ix3 0 ⟨(x 1).val, l⟩ (x 2)) rfl fun a => ?_
        rw [zero3 a]
        match a with
        | ⟨0, _⟩ => show (x 0).val = 0 + 0; omega
        | ⟨1, _⟩ => show (x 1).val = 0 + (x 1).val; omega
        | ⟨2, _⟩ => show (x 2).val = 0 + (x 2).val; omega
      · rw [dif_neg l]
        refine View.read_writes_cons_unit_of_mem arg7.view _ _ _ _ x (ix3 0 ⟨(x 1).val - 256, by omega⟩ (x 2)) rfl fun a => ?_
        match a with
        | ⟨0, _⟩ => show (x 0).val = 0 + 0; omega
        | ⟨1, _⟩ => show (x 1).val = 256 + ((x 1).val - 256); omega
        | ⟨2, _⟩ => show (x 2).val = 0 + (x 2).val; omega
    · rw [if_neg y]
      rw [dif_neg fun h => y (k14.mp h).2, dif_pos (k13.mpr (by omega))]
      obtain ⟨e1, e2, e3, e4, e5, e6, e7, e8, e9, e10, e11, e12⟩ := uses_full t arg4 arg5 arg6 arg8 arg9 arg10 f4 f5 f6 f8 f9 f10 W8 W9 W10
        h8 h9 h10 a8 a9 a10 g g'
      unfold bodyRun.sl.r_5 bodyRun.sl.r_6 bodyRun.sl.r_2 bodyRun.sl.r_3 bodyRun.sl.r_4 bodyRun.sl.r_1 bodyRun.sl.cst_70
      rw [e1, e2, e3, e4, e5, e6, e7, e8, e9, e10, e11, e12, readAt_zero arg3.view f3 _ zero3]
      funext x
      refine View.read_writes_cons_unit_of_mem arg7.view _ _ _ [] x x rfl fun a => ?_
      rw [zero3 a]; omega

end Run

/-- The scratch contents that the body leaves are the fills'. -/
theorem conts_eq (c : Dev nD) (i : grid0.Coords) (arg2 : Memref sig .tc .smem S16 .i32) (harg2 : arg2.IsWhole)
    (arg3 : Memref sig .tc .vmem S1x512x1024 .bf16) (harg3 : arg3.IsWhole) (arg4 : Memref sig .tc .vmem S1x1024x512 .f32) (harg4 : arg4.IsWhole)
    (arg5 : Memref sig .tc .vmem S1x1024x512 .f32) (harg5 : arg5.IsWhole) (arg6 : Memref sig .tc .vmem S1x512x1024 .f32) (harg6 : arg6.IsWhole)
    (arg7 : Memref sig .tc .vmem S1x512x1024 .bf16) (harg7 : arg7.IsWhole) (arg8 : Memref sig .tc .vmem S2x4x1024x512 .bf16) (harg8 : arg8.IsWhole)
    (arg9 : Memref sig .tc .vmem S2x4x1024x512 .bf16) (harg9 : arg9.IsWhole) (arg10 : Memref sig .tc .vmem S2x4x512x1024 .bf16) (harg10 : arg10.IsWhole)
    (q : PosShare TreeShare) (f2 : arg2.view.ty.Contents (Elt F)) (f3 : arg3.view.ty.Contents (Elt F)) (f4 : arg4.view.ty.Contents (Elt F))
    (f5 : arg5.view.ty.Contents (Elt F)) (f6 : arg6.view.ty.Contents (Elt F)) (f7 : arg7.view.ty.Contents (Elt F))
    (f8 : arg8.view.ty.Contents (Elt F)) (f9 : arg9.view.ty.Contents (Elt F)) (f10 : arg10.view.ty.Contents (Elt F)) :
    (bodyRun c i arg2 harg2 arg3 harg3 arg4 harg4 arg5 harg5 arg6 harg6 arg7 harg7 arg8 harg8 arg9 harg9 arg10 harg10 q f2 f3 f4 f5 f6 f7 f8 f9 f10).1.2
      = (cont8 i arg4 arg8 f4 f8, cont9 i arg5 arg9 f5 f9, cont10 i arg6 arg10 f6 f10) := rfl

end Cert.Exp

end
-- ==== Proof.Exp.Run.lean ====
/-
  The experts' launch: the blocks that the grid points are handed, what each writes, and the run of all of them.
-/
module

public import proofs.«01_k».proof.Proof.Exp.Out
public import Idealize.ShloMosaic.Lib.Pipeline.TableIdle

@[expose] public section

set_option maxRecDepth 16384

noncomputable section

namespace Cert.Exp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- Where the blocks sit: the rows and the result at the round's expert and the step's tile, the weights at the round's expert
    and the chunk that the step fills. -/
theorem places : ∀ t : Fin grid0.N,
    (cc0_transform_0 (grid0.coords t) 0 = t.val / 13 - 1 ∧ cc0_transform_0 (grid0.coords t) 1 = t.val % 13 ∧ cc0_transform_0 (grid0.coords t) 2 = 0)
    ∧ (cc0_transform_1 (grid0.coords t) 0 = min (t.val / 13) 15 ∧ cc0_transform_1 (grid0.coords t) 1 = 0
      ∧ cc0_transform_1 (grid0.coords t) 2 = min (t.val % 13) 3)
    ∧ (cc0_transform_2 (grid0.coords t) 0 = min (t.val / 13) 15 ∧ cc0_transform_2 (grid0.coords t) 1 = 0
      ∧ cc0_transform_2 (grid0.coords t) 2 = min (t.val % 13 - 4) 3)
    ∧ (cc0_transform_3 (grid0.coords t) 0 = min (t.val / 13) 15 ∧ cc0_transform_3 (grid0.coords t) 1 = min (t.val % 13 - 8) 3
      ∧ cc0_transform_3 (grid0.coords t) 2 = 0)
    ∧ (cc0_transform_4 (grid0.coords t) 0 = (if t.val / 13 = 0 then 16 else t.val / 13 - 1) ∧ cc0_transform_4 (grid0.coords t) 1 = t.val % 13
      ∧ cc0_transform_4 (grid0.coords t) 2 = 0) := by
  decide +kernel

/-- Every point stores its tile, in one of the three cases. -/
theorem busy (pf : pre0.Contents (Elt F)) (t : Fin grid0.N) : idle0 pf 4 (grid0.coords t) = false := by
  obtain ⟨k13, k14, k15⟩ := cases_iff t (pf.atD 0 (k0_off13 (grid0.coords t)))
  show (!(k0_cond13 (grid0.coords t) (pf.atD 0 (k0_off13 (grid0.coords t))) == 1#1) && !(k0_cond14 (grid0.coords t) (pf.atD 0 (k0_off13 (grid0.coords t))) == 1#1)
    && !(k0_cond15 (grid0.coords t) (pf.atD 0 (k0_off13 (grid0.coords t))) == 1#1)) = false
  by_cases z : (live t.val (pf.atD 0 (k0_off13 (grid0.coords t)))).toInt ≤ 0
  · rw [k15.mpr z]; simp
  by_cases y : (live t.val (pf.atD 0 (k0_off13 (grid0.coords t)))).toInt ≤ 256
  · rw [k14.mpr ⟨by omega, y⟩]; simp
  · rw [k13.mpr (by omega)]; simp

variable (m : (ℓ : Loc nD τ sig) → Buf (Elt F) ℓ) (ρ : Dev nD → PrngReg)

/-- What the launch finds in the device's buffers. -/
abbrev V (c : Dev nD) (b : Ref sig .tc) : Buf (Elt F) ((c : Thread nD τ).loc b) := m ((c : Thread nD τ).loc b)

/-- The table's contents. -/
abbrev tab (p : Fin 1) : (pcfgs (F := F) p).Adm := ⟨fun k => V m 0 (pre0.ref k), trivial⟩

/-- The configuration at those contents. -/
abbrev cfg : Cfg sig Λ₀ := cfg0 (tab m 0)

/-- Window `w`'s block at point `t`, of what the launch finds in its array. -/
def iblk (c : Dev nD) (w : Fin (cfg m).W) (t : Fin (cfg m).N) : (((cfg m).win w).xblock ((cfg m).grid.coords t)).Idx → Elt F ((cfg m).win w).elt :=
  (((cfg m).win w).blk t).view.read (Elt F) (V m c (Pipeline.arrRef spec0 w))

/-- Chunk `f` of expert `x`'s gate, up and down weights. -/
def chunkG (c : Dev nD) (x f : ℕ) : Vec F S1x1024x512 .f32 := fun y =>
  V m c main_arg2 (ix3 ⟨x % 16, Nat.mod_lt _ (by decide)⟩ (y 1) ⟨f % 4 * 512 + (y 2).val, by
    have h : (y 2).val < 512 := (y 2).isLt
    omega⟩)
def chunkU (c : Dev nD) (x f : ℕ) : Vec F S1x1024x512 .f32 := fun y =>
  V m c main_arg3 (ix3 ⟨x % 16, Nat.mod_lt _ (by decide)⟩ (y 1) ⟨f % 4 * 512 + (y 2).val, by
    have h : (y 2).val < 512 := (y 2).isLt
    omega⟩)
def chunkD (c : Dev nD) (x f : ℕ) : Vec F S1x512x1024 .f32 := fun y =>
  V m c main_arg4 (ix3 ⟨x % 16, Nat.mod_lt _ (by decide)⟩ ⟨f % 4 * 512 + (y 1).val, by
    have h : (y 1).val < 512 := (y 1).isLt
    omega⟩ (y 2))

/-- The same as the scratch holds them, rounded. -/
def WG (c : Dev nD) (x f : ℕ) : BlkA F := k0_pay14 (chunkG m c x f)
def WU (c : Dev nD) (x f : ℕ) : BlkA F := k0_pay14 (chunkU m c x f)
def WD (c : Dev nD) (x f : ℕ) : BlkD F := k0_pay22 (chunkD m c x f)

/-- The weights' blocks are the chunks that the point fills. -/
theorem iblk1 (c : Dev nD) (t : Fin (cfg m).N) (h : t.val / 13 < 16) (h' : t.val % 13 < 4) :
    iblk m c 1 t = chunkG m c (t.val / 13) (t.val % 13) := by
  obtain ⟨-, ⟨p0, p1, p2⟩, -⟩ := places t
  refine funext fun (y : S1x1024x512.Idx) => ?_
  refine congrArg (V m c main_arg2) (funext fun a => Fin.ext ?_)
  have y0 : (y 0).val = 0 := Nat.lt_one_iff.mp (y 0).isLt
  match a with
  | ⟨0, _⟩ => show cc0_transform_1 (grid0.coords t) 0 * 1 + 1 * (y 0).val = t.val / 13 % 16; omega
  | ⟨1, _⟩ => show cc0_transform_1 (grid0.coords t) 1 * 1024 + 1 * (y 1).val = (y 1).val; omega
  | ⟨2, _⟩ => show cc0_transform_1 (grid0.coords t) 2 * 512 + 1 * (y 2).val = t.val % 13 % 4 * 512 + (y 2).val; omega

theorem iblk2 (c : Dev nD) (t : Fin (cfg m).N) (h : t.val / 13 < 16) (h' : 4 ≤ t.val % 13) (h'' : t.val % 13 < 8) :
    iblk m c 2 t = chunkU m c (t.val / 13) (t.val % 13 - 4) := by
  obtain ⟨-, -, ⟨p0, p1, p2⟩, -⟩ := places t
  refine funext fun (y : S1x1024x512.Idx) => ?_
  refine congrArg (V m c main_arg3) (funext fun a => Fin.ext ?_)
  have y0 : (y 0).val = 0 := Nat.lt_one_iff.mp (y 0).isLt
  match a with
  | ⟨0, _⟩ => show cc0_transform_2 (grid0.coords t) 0 * 1 + 1 * (y 0).val = t.val / 13 % 16; omega
  | ⟨1, _⟩ => show cc0_transform_2 (grid0.coords t) 1 * 1024 + 1 * (y 1).val = (y 1).val; omega
  | ⟨2, _⟩ => show cc0_transform_2 (grid0.coords t) 2 * 512 + 1 * (y 2).val = (t.val % 13 - 4) % 4 * 512 + (y 2).val; omega

theorem iblk3 (c : Dev nD) (t : Fin (cfg m).N) (h : t.val / 13 < 16) (h' : 8 ≤ t.val % 13) (h'' : t.val % 13 < 12) :
    iblk m c 3 t = chunkD m c (t.val / 13) (t.val % 13 - 8) := by
  obtain ⟨-, -, -, ⟨p0, p1, p2⟩, -⟩ := places t
  refine funext fun (y : S1x512x1024.Idx) => ?_
  refine congrArg (V m c main_arg4) (funext fun a => Fin.ext ?_)
  have y0 : (y 0).val = 0 := Nat.lt_one_iff.mp (y 0).isLt
  match a with
  | ⟨0, _⟩ => show cc0_transform_3 (grid0.coords t) 0 * 1 + 1 * (y 0).val = t.val / 13 % 16; omega
  | ⟨1, _⟩ => show cc0_transform_3 (grid0.coords t) 1 * 512 + 1 * (y 1).val = (t.val % 13 - 8) % 4 * 512 + (y 1).val; omega
  | ⟨2, _⟩ => show cc0_transform_3 (grid0.coords t) 2 * 1024 + 1 * (y 2).val = (y 2).val; omega

/-- The rows of the expert that point `t` computes. -/
def word (c : Dev nD) (t : Fin (cfg m).N) : BitVec 32 := V m c main_arg0 (ix1 ⟨t.val / 13 - 1, by
  have h : t.val < 221 := t.isLt
  omega⟩)

/-- What point `t` leaves in the output's block. -/
def outAt (c : Dev nD) (t : Fin (cfg m).N) : Vec F S1x512x1024 .bf16 :=
  outOf t.val (word m c t) (iblk m c 0 t) (WG m c (t.val / 13 - 1)) (WU m c (t.val / 13 - 1)) (WD m c (t.val / 13 - 1))

/-- What the body finds before point `n` besides the blocks: the scratch weights filled so far, the random register and its
    half of the table. -/
def Phi (c : Dev nD) (n : ℕ) : sProp 𝕄 :=
  iprop((∃ S8 S9 S10, ⌜Holds 0 n (WG m c) S8 ∧ Holds 4 n (WU m c) S9 ∧ Holds 8 n (WD m c) S10⌝
      ∗ owns (c : Thread nD τ) (Memref.whole cc0_scratch0) fullShare S8 ∗ owns (c : Thread nD τ) (Memref.whole cc0_scratch1) fullShare S9
      ∗ owns (c : Thread nD τ) (Memref.whole cc0_scratch2) fullShare S10)
    ∗ (∃ r, prngReg c r) ∗ owns (c : Thread nD τ) (Memref.whole main_arg0) fullShare.right (V m c main_arg0))

/-- The launch's data: the arrays as found, the blocks in place, the outputs as computed. -/
def dats (p : Fin 1) (c : Dev nD) : Dat τ (Elt F) Unit ℕ (UR sig nD τ) ℕ (cfg m) c where
  A w := V m c (Pipeline.arrRef spec0 w)
  after
    | 0, t => iblk m c 0 t
    | 1, t => iblk m c 1 t
    | 2, t => iblk m c 2 t
    | 3, t => iblk m c 3 t
    | 4, t => outAt m c t
    | ⟨_ + 5, h⟩, _ => absurd h (Nat.not_lt.2 (Nat.le_add_left _ _))
  Φ t := Phi m c t.val
  q _ := fullShare
  owed _ := 0

theorem A_eq (c : Dev nD) (w : Fin (cfg m).W) : (dats m 0 c).A w = V m c (Pipeline.arrRef spec0 w) := by
  dsimp only [dats]

theorem left0 (c : Dev nD) (t : Fin (cfg m).N) : (dats m 0 c).after 0 t = iblk m c 0 t := rfl
theorem left1 (c : Dev nD) (t : Fin (cfg m).N) : (dats m 0 c).after 1 t = iblk m c 1 t := rfl
theorem left2 (c : Dev nD) (t : Fin (cfg m).N) : (dats m 0 c).after 2 t = iblk m c 2 t := rfl
theorem left3 (c : Dev nD) (t : Fin (cfg m).N) : (dats m 0 c).after 3 t = iblk m c 3 t := rfl
theorem left4 (c : Dev nD) (t : Fin (cfg m).N) : (dats m 0 c).after 4 t = outAt m c t := rfl

/-- Each input's buffer holds its block at every point, whether fetched there or kept. -/
theorem found0 (c : Dev nD) (t : Fin (cfg m).N) (d) : (dats m 0 c).before 0 t d = iblk m c 0 t :=
  ((dats m 0 c).before_in_eq_fetched 0 rfl (fun _ => rfl) (fun _ _ _ => rfl) (fun t => by rw [left0]; rfl) t d).trans rfl
theorem found1 (c : Dev nD) (t : Fin (cfg m).N) (d) : (dats m 0 c).before 1 t d = iblk m c 1 t :=
  ((dats m 0 c).before_in_eq_fetched 1 rfl (fun _ => rfl) (fun _ _ _ => rfl) (fun t => by rw [left1]; rfl) t d).trans rfl
theorem found2 (c : Dev nD) (t : Fin (cfg m).N) (d) : (dats m 0 c).before 2 t d = iblk m c 2 t :=
  ((dats m 0 c).before_in_eq_fetched 2 rfl (fun _ => rfl) (fun _ _ _ => rfl) (fun t => by rw [left2]; rfl) t d).trans rfl
theorem found3 (c : Dev nD) (t : Fin (cfg m).N) (d) : (dats m 0 c).before 3 t d = iblk m c 3 t :=
  ((dats m 0 c).before_in_eq_fetched 3 rfl (fun _ => rfl) (fun _ _ _ => rfl) (fun t => by rw [left3]; rfl) t d).trans rfl

/-- Each window's buffer at a point. -/
abbrev st0 (t : Fin (cfg m).N) : Memref sig .tc .vmem S1x512x1024 .bf16 := spec0_0.stage ((cfg m).slots t 0)
abbrev st1 (t : Fin (cfg m).N) : Memref sig .tc .vmem S1x1024x512 .f32 := spec0_1.stage ((cfg m).slots t 1)
abbrev st2 (t : Fin (cfg m).N) : Memref sig .tc .vmem S1x1024x512 .f32 := spec0_2.stage ((cfg m).slots t 2)
abbrev st3 (t : Fin (cfg m).N) : Memref sig .tc .vmem S1x512x1024 .f32 := spec0_3.stage ((cfg m).slots t 3)
abbrev st4 (t : Fin (cfg m).N) : Memref sig .tc .vmem S1x512x1024 .bf16 := spec0_4.stage ((cfg m).slots t 4)

/-- The body as a point runs it. -/
abbrev bodyAt (t : Fin (cfg m).N) : Prog (TpuEff nD τ sig (Elt F) Λ₀ .tc) PUnit :=
  cc0_expert_ffn (grid0.coords t) (Memref.whole main_arg0) (Memref.isWhole_whole _) (st0 m t) (hstage0_0 (((cfg m).slots t 0).cast nbuf0_0))
    (st1 m t) (hstage0_1 (((cfg m).slots t 1).cast nbuf0_1)) (st2 m t) (hstage0_2 (((cfg m).slots t 2).cast nbuf0_2))
    (st3 m t) (hstage0_3 (((cfg m).slots t 3).cast nbuf0_3)) (st4 m t) (hstage0_4 (((cfg m).slots t 4).cast nbuf0_4))
    (Memref.whole cc0_scratch0) (Memref.isWhole_whole _) (Memref.whole cc0_scratch1) (Memref.isWhole_whole _)
    (Memref.whole cc0_scratch2) (Memref.isWhole_whole _)

/-- What a point's body is run with, and what it returns. -/
def bodyPre (c : Dev nD) (t : Fin (cfg m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d))
    ∗ (∃ d, owns (c : Thread nD τ) (st4 m t) fullShare ((dats m 0 c).before 4 t d)))

def bodyPost (c : Dev nD) (t : Fin (cfg m).N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t)
    ∗ owns (c : Thread nD τ) (st2 m t) fullShare ((dats m 0 c).after 2 t)
    ∗ owns (c : Thread nD τ) (st3 m t) fullShare ((dats m 0 c).after 3 t)
    ∗ owns (c : Thread nD τ) (st4 m t) fullShare ((dats m 0 c).after 4 t))

set_option maxHeartbeats 1600000 in
/-- The body at any point: it finds the blocks and the weights, and leaves the computed tile and the weights one chunk on. -/
theorem sound_body (c : Dev nD) (t : Fin (cfg m).N) :
    bodyPre m c t ⊢ wp frame (wpE (defs₀ (F := F)) Variants.none c none) Set.univ (bodyAt m t) (fun _ => bodyPost m c t) := by
  unfold bodyPre bodyPost
  simp only [found0, found1, found2, found3]
  rw [show (dats m 0 c).Φ t.castSucc = Phi m c t.val from rfl, show (dats m 0 c).Φ t.succ = Phi m c (t.val + 1) from rfl,
    show (dats m 0 c).owesAt () t.succ = (dats m 0 c).owesAt () t.castSucc from rfl, left0, left1, left2, left3, left4]
  unfold Phi owns
  iintro ⟨⟨⟨%S8, %S9, %S10, %hS, ⟨%f8, %e8, H8⟩, ⟨%f9, %e9, H9⟩, ⟨%f10, %e10, H10⟩⟩, Hp, ⟨%f2, %e2, H2⟩⟩, Ho,
    ⟨%d0, %f3, %e3, H3⟩, ⟨%d1, %f4, %e4, H4⟩, ⟨%d2, %f5, %e5, H5⟩, ⟨%d3, %f6, %e6, H6⟩, ⟨%d4, %f7, %e7, H7⟩⟩
  obtain ⟨h8, h9, h10⟩ := hS
  rw [← e8] at h8
  rw [← e9] at h9
  rw [← e10] at h10
  have a8 := after8 t (st1 m t) (Memref.whole cc0_scratch0) f4 f8 (WG m c) (fun g g' => by rw [e4, iblk1 m c t g g']; rfl)
  have a9 := after9 t (st2 m t) (Memref.whole cc0_scratch1) f5 f9 (WU m c) (fun g g' g'' => by rw [e5, iblk2 m c t g g' g'']; rfl)
  have a10 := after10 t (st3 m t) (Memref.whole cc0_scratch2) f6 f10 (WD m c) (fun g g' g'' => by rw [e6, iblk3 m c t g g' g'']; rfl)
  have ho := out_eq t (Memref.whole main_arg0) (Memref.isWhole_whole _) (st0 m t) (hstage0_0 (((cfg m).slots t 0).cast nbuf0_0))
    (st1 m t) (hstage0_1 (((cfg m).slots t 1).cast nbuf0_1)) (st2 m t) (hstage0_2 (((cfg m).slots t 2).cast nbuf0_2))
    (st3 m t) (hstage0_3 (((cfg m).slots t 3).cast nbuf0_3)) (st4 m t) (hstage0_4 (((cfg m).slots t 4).cast nbuf0_4))
    (Memref.whole cc0_scratch0) (Memref.isWhole_whole _) (Memref.whole cc0_scratch1) (Memref.isWhole_whole _)
    (Memref.whole cc0_scratch2) (Memref.isWhole_whole _) fullShare.right f2 f3 f4 f5 f6 f7 f8 f9 f10 (WG m c) (WU m c) (WD m c)
    h8 h9 h10 a8 a9 a10 c
  rw [e2, e3] at ho
  iapply ((bodyRun c (grid0.coords t) (Memref.whole main_arg0) (Memref.isWhole_whole _) (st0 m t) (hstage0_0 (((cfg m).slots t 0).cast nbuf0_0))
    (st1 m t) (hstage0_1 (((cfg m).slots t 1).cast nbuf0_1)) (st2 m t) (hstage0_2 (((cfg m).slots t 2).cast nbuf0_2))
    (st3 m t) (hstage0_3 (((cfg m).slots t 3).cast nbuf0_3)) (st4 m t) (hstage0_4 (((cfg m).slots t 4).cast nbuf0_4))
    (Memref.whole cc0_scratch0) (Memref.isWhole_whole _) (Memref.whole cc0_scratch1) (Memref.isWhole_whole _)
    (Memref.whole cc0_scratch2) (Memref.isWhole_whole _) fullShare.right f2 f3 f4 f5 f6 f7 f8 f9 f10).2 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H2, H3, H4, H5, H6, H7, H8, H9, H10⟩
  isplitl [H8 H9 H10 Hp H2]
  · isplitl [H8 H9 H10]
    · iexists _; iexists _; iexists _
      isplitr
      swap
      · isplitl [H8]
        · iexists _; isplitr
          swap; · iexact H8
          ipureintro; rfl
        isplitl [H9]
        · iexists _; isplitr
          swap; · iexact H9
          ipureintro; rfl
        iexists _; isplitr
        swap; · iexact H10
        ipureintro; rfl
      ipureintro
      exact ⟨holds_succ (by omega) h8 a8, holds_succ (by omega) h9 a9, holds_succ (by omega) h10 a10⟩
    isplitl [Hp]; · iexact Hp
    iexists f2; isplitr
    swap; · iexact H2
    ipureintro; exact e2
  isplitl [Ho]; · iexact Ho
  isplitl [H3]
  · iexists f3; isplitr
    swap; · iexact H3
    ipureintro; exact e3
  isplitl [H4]
  · iexists f4; isplitr
    swap; · iexact H4
    ipureintro; exact e4
  isplitl [H5]
  · iexists f5; isplitr
    swap; · iexact H5
    ipureintro; exact e5
  isplitl [H6]
  · iexists f6; isplitr
    swap; · iexact H6
    ipureintro; exact e6
  iexists _; isplitr
  swap; · iexact H7
  ipureintro; exact ho

end Cert.Exp

end
-- ==== Proof.Exp.Launch.lean ====
/-
  The experts' run: the body meets its obligation at every grid point, so the launch ends, the arguments are as they were and
  the result array is what the points wrote.
-/
module

public import proofs.«01_k».proof.Proof.Exp.Run
public import Idealize.ShloMosaic.Lib.Quiescent

@[expose] public section

set_option maxRecDepth 16384

noncomputable section

namespace Cert.Exp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

/-- The body table's entry at a point is the body at that point's buffers. -/
theorem row (t : Fin (cfg m).N) :
    defs₀ (F := F) .tc (cfg m).body ((cfg m).bodyArgs t ((cfg m).slots t)) = bodyAt m t := by
  unfold defs₀; rw [Defs.onTc_tc]

/-- The body's obligation, at every point. -/
theorem obligation (c : Dev nD) : BodyObligationLoose (dats m 0 c) (defs₀ (F := F)) Variants.none () Set.univ := fun t => by
  rw [bigSep_W0, bigSep_W0, row]
  have hb : idle0 (fun k => V m 0 (pre0.ref k)) 4 ((pcfg0.gridAt fun k => V m 0 (pre0.ref k)).coords t) = false := busy (tab m 0).1 t
  refine triple_restated (sound_body m c t) rfl .rfl fun _ => ?_
  dsimp only
  rw [hb]
  exact .rfl

/-- The launch's half of the table. -/
theorem table (c : Dev nD) : (Pipeline.ΦT pre0 (tab m 0).1 c : sProp (MT nD τ sig Unit (Elt F) ℕ (UR sig nD τ) ℕ))
    ⊢ ((c : Thread nD τ).loc main_arg0) ↦{fullShare.right} V m c main_arg0 := by
  unfold Pipeline.ΦT Pipeline.prefHeld
  rw [show (Finset.univ : Finset (Fin pre0.K)) = {(0 : Fin 1)} from rfl, bigSep_singleton, Subsingleton.elim c 0]
  exact .rfl

/-- At the start nothing is filled: any contents of the scratch will do. -/
theorem enter (c : Dev nD) :
    iprop(Pipeline.ΦA spec0 c ∗ Pipeline.ΦT pre0 (tab m 0).1 c) ⊢ Phi m c 0 := by
  unfold Pipeline.ΦA Phi
  rw [scopedRest0_eq]
  simp only [owns_whole]
  iintro ⟨⟨⟨⟨%f8, H8⟩, ⟨%f9, H9⟩, ⟨%f10, H10⟩⟩, Hp⟩, Ht⟩
  isplitl [H8 H9 H10]
  · iexists f8; iexists f9; iexists f10
    isplitr
    · ipureintro
      exact ⟨holds_zero _ _ _, holds_zero _ _ _, holds_zero _ _ _⟩
    isplitl [H8]; · iexact H8
    isplitl [H9]; · iexact H9
    iexact H10
  isplitl [Hp]; · iexact Hp
  iapply (table m c)
  iexact Ht

/-- At the end the scratch and the register are handed back. -/
theorem leave (c : Dev nD) (n : ℕ) : Phi m c n ⊢ Pipeline.ΦA spec0 c := by
  unfold Pipeline.ΦA Phi
  rw [scopedRest0_eq]
  simp only [owns_whole]
  iintro ⟨⟨%f8, %f9, %f10, %h, H8, H9, H10⟩, Hp, Ht⟩
  isplitl [H8 H9 H10]
  · isplitl [H8]; · iexists f8; iexact H8
    isplitl [H9]; · iexists f9; iexact H9
    iexists f10; iexact H10
  iexact Hp

set_option backward.isDefEq.respectTransparency.types false in
/-- The run: every array of the launch ends at what the points left in it, every other buffer as found, the counters at zero. -/
theorem run : θ_run defs (onTc (τ := τ) (main (F := F))) (s₀ m ρ)
    (fun r => Pipeline.FramePost (Pipeline.pin (pcfgs (F := F)) (tab m)) (dats m) 0 (V m) r ∧ r.2.sem = fun _ => 0) :=
  Pipeline.θ_run_frameP_track (Q' := _) (pcfgs (F := F)) (tab m) (dats m) (0 : Fin 1) launch0 defs₀ Variants.none m ρ main
    (hbody := obligation m) (hshare := fun c => (dats m 0 c).share_full fun _ => rfl)
    (howed := fun _ _ => rfl) (V := V m) (hmain := Pipeline.hmainP_region _ _ _ _ m main fun _ => rfl) (hA := A_eq m)
    (hpf := fun c k => by rw [Subsingleton.elim c 0]) (hin := enter m) (hout := fun c => leave m c _)

/-- The launch ends with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_arg0 (Pipeline.mem_restRefs_of main_arg0 (by decide) (by decide : ∀ w : Fin 5, (spec0 w).arr.view.ref ≠ main_arg0)),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run m ρ)

/-- The launch ends with the result array at what the points left. -/
theorem written : θ_run defs (onTc (τ := τ) (main (F := F))) ⟨m, fun _ => 0, ρ⟩ (fun r => ∀ c : Dev nD,
      r.2.mem ((c.tc : Thread nD τ).loc main_v0) = (dats m 0 c).arrAt 4 (cfg m).N) :=
  (θ_run defs _ _).mono (fun _ h c => (h.1 c).1 4) (run m ρ)

/-- Distinct points' result blocks are distinct. -/
theorem place_inj : ∀ t t' : Fin grid0.N, cc0_transform_4 (grid0.coords t) = cc0_transform_4 (grid0.coords t') → t = t' := by
  intro t t' h
  obtain ⟨-, -, -, -, p0, p1, -⟩ := places t
  obtain ⟨-, -, -, -, p0', p1', -⟩ := places t'
  have e0 := p0.symm.trans ((congrFun h 0).trans p0')
  have e1 := p1.symm.trans ((congrFun h 1).trans p1')
  have l : t.val < 221 := t.isLt
  have l' : t'.val < 221 := t'.isLt
  apply Fin.ext
  split_ifs at e0 <;> omega

/-- The result array's block at point `t`, at the end, is what that point left. -/
theorem result (c : Dev nD) (t : Fin (cfg m).N) (hf : ((cfg m).win 4).flush t = true) :
    (((cfg m).win 4).blk t).view.read (Elt F) ((dats m 0 c).arrAt 4 (cfg m).N) = outAt m c t :=
  ((dats m 0 c).read_blk_arrAt_eq_flushed 4 (fun t t' _ _ hne => ((cfg m).win 4).disjoint_blk fun h => hne (place_inj t t' h))
    (cfg m).N t t.isLt hf).trans rfl

end Cert.Exp

end
-- ==== Proof.Exp.Value.lean ====
/-
  What the experts' launch writes, at an element, over the extended reals.
-/
module

public import proofs.«01_k».proof.Proof.Exp.Launch
public import Idealize.ShloMosaic.Lib.Pipeline.ReadBack
public import Idealize.ShloMosaic.Lib.Pointwise
public import Idealize.ShloMosaic.Lib.KernelVsHost
public import Idealize.ShloMosaic.Lib.Pipeline.ValueKit.Tiles

@[expose] public section

set_option maxRecDepth 16384

noncomputable section

namespace Cert.Exp

open Cert.Kernel3Ideal Cert.Kernel3Ideal.Gen Idealize.ShloMosaic Idealize.ShloMosaic.TcCoe Idealize.SL.Sem

/-- A gate passed through the logistic unit, times the value it gates. -/
def act (a u : EReal) : EReal := a * Ideal.div 1 (1 + Ideal.exp (-a)) * u

/-- One chunk's share of a result: its 512 gated features, weighted. -/
def share (x : Fin 1024 → EReal) (A U : Fin 1024 → Fin 512 → EReal) (D : Fin 512 → EReal) : EReal :=
  ∑ p, act (∑ k, x k * A k p) (∑ k, x k * U k p) * D p

section Pays

variable (X : Vec Ideal S1x512x1024 .bf16) (A U : ℕ → BlkA Ideal) (D : ℕ → BlkD Ideal)

/-- A whole tile's element is the sum of the four shares. -/
theorem outFull_apply (r : Fin 512) (j : Fin 1024) : outFull X A U D (ix3 0 r j)
    = (∑ q : Fin 4, share (fun k => X (ix3 0 r k)) (fun k p => A q.val (ix4 0 0 k p)) (fun k p => U q.val (ix4 0 0 k p)) (fun p => D q.val (ix4 0 0 p j))) := by
  rw [Fin.sum_univ_four]
  unfold outFull share act
  pointwise [k0_pay26, k0_pay6, k0_pay3, k0_pay2, k0_pay4, k0_pay5, k0_pay7]
  simp only [zero_sub]

/-- The same of an element in the first half of a tile. -/
theorem outTop_apply (r : Fin 256) (j : Fin 1024) : outTop X A U D (ix3 0 r j)
    = (∑ q : Fin 4, share (fun k => X (ix3 0 ⟨r.val, by omega⟩ k)) (fun k p => A q.val (ix4 0 0 k p)) (fun k p => U q.val (ix4 0 0 k p))
      (fun p => D q.val (ix4 0 0 p j))) := by
  have e : ∀ k : Fin 1024, firstHalf X (ix3 0 r k) = X (ix3 0 ⟨r.val, by omega⟩ k) := fun k => by
    unfold firstHalf
    refine congrArg X (funext fun a => Fin.ext ?_)
    match a with
    | ⟨0, _⟩ => rfl
    | ⟨1, _⟩ => show 0 + 1 * r.val = r.val; omega
    | ⟨2, _⟩ => show 0 + 1 * k.val = k.val; omega
  rw [Fin.sum_univ_four]
  simp only [← e]
  unfold outTop share act
  pointwise [k0_pay27, k0_pay12, k0_pay9, k0_pay8, k0_pay10, k0_pay11, k0_pay13]
  simp only [zero_sub]

/-- What a point writes at a row that is live. -/
theorem outOf_apply (t : ℕ) (v : BitVec 32) (r : Fin 512) (j : Fin 1024) (h : (r.val : ℤ) < (live t v).toInt) :
    outOf t v X A U D (ix3 0 r j)
    = (∑ q : Fin 4, share (fun k => X (ix3 0 r k)) (fun k p => A q.val (ix4 0 0 k p)) (fun k p => U q.val (ix4 0 0 k p)) (fun p => D q.val (ix4 0 0 p j))) := by
  unfold outOf
  rw [if_neg (by omega)]
  by_cases h' : (live t v).toInt ≤ 256
  · rw [if_pos h']
    have hr : r.val < 256 := by omega
    unfold outHalf
    rw [dif_pos (show ((ix3 0 r j : S1x512x1024.Idx) 1).val < 256 from hr)]
    exact outTop_apply X A U D ⟨r.val, hr⟩ j
  · rw [if_neg h']
    exact outFull_apply X A U D r j

end Pays

section Result

variable (m : (ℓ : Loc nD τ sig) → Buf (Elt Ideal) ℓ) (c : Dev nD)

/-- The grid point that computes tile `j` of expert `e`: the round after the expert's weights were filled. -/
def pt (e : Fin 16) (j : Fin 13) : Fin (cfg m).N := ⟨(e.val + 1) * 13 + j.val, by
  have h : (cfg m).N = 221 := N_0
  omega⟩

theorem pt_div (e : Fin 16) (j : Fin 13) : (pt m e j).val / 13 = e.val + 1 := by
  show ((e.val + 1) * 13 + j.val) / 13 = _
  omega

theorem pt_mod (e : Fin 16) (j : Fin 13) : (pt m e j).val % 13 = j.val := by
  show ((e.val + 1) * 13 + j.val) % 13 = _
  omega

/-- The rows' block there. -/
theorem rows_apply (e : Fin 16) (j : Fin 13) (r : Fin 512) (k : Fin 1024) :
    iblk m c 0 (pt m e j) (ix3 0 r k : S1x512x1024.Idx) = V m c main_arg1 (ix3 e ⟨j.val * 512 + r.val, by omega⟩ k) := by
  obtain ⟨⟨p0, p1, p2⟩, -⟩ := places (pt m e j)
  rw [pt_div] at p0
  rw [pt_mod] at p1
  refine congrArg (V m c main_arg1) (funext fun a => Fin.ext ?_)
  match a with
  | ⟨0, _⟩ => show cc0_transform_0 (grid0.coords (pt m e j)) 0 * 1 + 1 * 0 = e.val; omega
  | ⟨1, _⟩ => show cc0_transform_0 (grid0.coords (pt m e j)) 1 * 512 + 1 * r.val = j.val * 512 + r.val; omega
  | ⟨2, _⟩ => show cc0_transform_0 (grid0.coords (pt m e j)) 2 * 1024 + 1 * k.val = k.val; omega

/-- The chunks of an expert's weights are the weights' columns and rows. -/
theorem weights_apply (e : Fin 16) (q : Fin 4) (k : Fin 1024) (p : Fin 512) :
    WG m c e.val q.val (ix4 0 0 k p) = V m c main_arg2 (ix3 e k ⟨q.val * 512 + p.val, by omega⟩)
    ∧ WU m c e.val q.val (ix4 0 0 k p) = V m c main_arg3 (ix3 e k ⟨q.val * 512 + p.val, by omega⟩)
    ∧ WD m c e.val q.val (ix4 0 0 p k) = V m c main_arg4 (ix3 e ⟨q.val * 512 + p.val, by omega⟩ k) := by
  have he : e.val % 16 = e.val := Nat.mod_eq_of_lt e.isLt
  have hq : q.val % 4 = q.val := Nat.mod_eq_of_lt q.isLt
  refine ⟨?_, ?_, ?_⟩
  · have h : ∀ Y : Vec Ideal S1x1024x512 .f32, k0_pay14 Y (ix4 0 0 k p) = Y (ix3 0 k p) := fun Y => by pointwise [k0_pay14]
    refine (h _).trans (congrArg (V m c main_arg2) (funext fun a => Fin.ext ?_))
    match a with
    | ⟨0, _⟩ => exact he
    | ⟨1, _⟩ => rfl
    | ⟨2, _⟩ => show q.val % 4 * 512 + p.val = q.val * 512 + p.val; rw [hq]
  · have h : ∀ Y : Vec Ideal S1x1024x512 .f32, k0_pay14 Y (ix4 0 0 k p) = Y (ix3 0 k p) := fun Y => by pointwise [k0_pay14]
    refine (h _).trans (congrArg (V m c main_arg3) (funext fun a => Fin.ext ?_))
    match a with
    | ⟨0, _⟩ => exact he
    | ⟨1, _⟩ => rfl
    | ⟨2, _⟩ => show q.val % 4 * 512 + p.val = q.val * 512 + p.val; rw [hq]
  · have h : ∀ Y : Vec Ideal S1x512x1024 .f32, k0_pay22 Y (ix4 0 0 p k) = Y (ix3 0 p k) := fun Y => by pointwise [k0_pay22]
    refine (h _).trans (congrArg (V m c main_arg4) (funext fun a => Fin.ext ?_))
    match a with
    | ⟨0, _⟩ => exact he
    | ⟨1, _⟩ => show q.val % 4 * 512 + p.val = q.val * 512 + p.val; rw [hq]
    | ⟨2, _⟩ => rfl

/-- Every point's block is written back: the next point's is another one. -/
theorem flushes (t : Fin (cfg m).N) : ((cfg m).win 4).flush t = true := by
  show Pipeline.Window.flushOf grid0 true cc0_transform_4 t = true
  unfold Pipeline.Window.flushOf
  simp only [Bool.true_and, Bool.or_eq_true, decide_eq_true_eq]
  by_cases h : t.val + 1 = grid0.N
  · exact Or.inl h
  · refine Or.inr ⟨?_, fun e => ?_⟩
    · have : t.val < grid0.N := t.isLt
      omega
    · exact absurd (congrArg Fin.val (place_inj _ _ e)) (Nat.succ_ne_self _)

/-- A row below the expert's rows is live in its tile. -/
theorem live_row (e : Fin 16) (j : Fin 13) (r : Fin 512) (v : BitVec 32) (h : ((j.val * 512 + r.val : ℕ) : ℤ) < v.toInt) :
    (r.val : ℤ) < (live (pt m e j).val v).toInt := by
  unfold live
  rw [pt_div, pt_mod, if_pos (Nat.succ_pos _)]
  have hj := j.isLt
  have b : BitVec.ofNat 32 j.val * 512#32 = BitVec.ofNat 32 (j.val * 512) := by
    apply BitVec.eq_of_toNat_eq
    simp [BitVec.toNat_mul]
  rw [b]
  have hv := BitVec.toInt_lt (x := v)
  have n : (BitVec.ofNat 32 (j.val * 512)).toInt = ((j.val * 512 : ℕ) : ℤ) := by
    have n' : (BitVec.ofNat 32 (j.val * 512)).toNat = j.val * 512 := by
      rw [BitVec.toNat_ofNat]
      omega
    rw [BitVec.toInt_eq_toNat_of_lt (by omega), n']
  rw [BitVec.toInt_sub, n, Int.bmod_eq_of_le (by omega) (by omega)]
  omega

/-- The result at a live row: the expert's weighted sum over all 2048 gated features, in four shares. -/
theorem final_apply (e : Fin 16) (j : Fin 13) (r : Fin 512) (o : Fin 1024)
    (h : ((j.val * 512 + r.val : ℕ) : ℤ) < (V m c main_arg0 (ix1 e) : BitVec 32).toInt) :
    (dats m 0 c).arrAt 4 (cfg m).N (ix3 ⟨e.val, by omega⟩ ⟨j.val * 512 + r.val, by omega⟩ o : S17x6656x1024.Idx)
      = ∑ q : Fin 4, share (fun k => V m c main_arg1 (ix3 e ⟨j.val * 512 + r.val, by omega⟩ k))
        (fun k p => V m c main_arg2 (ix3 e k ⟨q.val * 512 + p.val, by omega⟩))
        (fun k p => V m c main_arg3 (ix3 e k ⟨q.val * 512 + p.val, by omega⟩))
        (fun p => V m c main_arg4 (ix3 e ⟨q.val * 512 + p.val, by omega⟩ o)) := by
  obtain ⟨-, -, -, -, p0, p1, p2⟩ := places (pt m e j)
  rw [pt_div, if_neg (Nat.succ_ne_zero _)] at p0
  rw [pt_mod] at p1
  have g : (((cfg m).win 4).blk (pt m e j)).view.emb (ix3 0 r o : S1x512x1024.Idx)
      = (ix3 ⟨e.val, by omega⟩ ⟨j.val * 512 + r.val, by omega⟩ o : S17x6656x1024.Idx) := by
    refine funext fun a => Fin.ext ?_
    match a with
    | ⟨0, _⟩ => show cc0_transform_4 (grid0.coords (pt m e j)) 0 * 1 + 1 * 0 = e.val; omega
    | ⟨1, _⟩ => show cc0_transform_4 (grid0.coords (pt m e j)) 1 * 512 + 1 * r.val = j.val * 512 + r.val; omega
    | ⟨2, _⟩ => show cc0_transform_4 (grid0.coords (pt m e j)) 2 * 1024 + 1 * o.val = o.val; omega
  have hr := result m c (pt m e j) (flushes m _)
  generalize (dats m 0 c).arrAt 4 (cfg m).N = f at hr ⊢
  have hb : f ((((cfg m).win 4).blk (pt m e j)).view.emb (ix3 0 r o : S1x512x1024.Idx)) = outAt m c (pt m e j) (ix3 0 r o) := by
    rw [← hr]
    rfl
  rw [g] at hb
  refine hb.trans ?_
  have hw : word m c (pt m e j) = V m c main_arg0 (ix1 e) := by
    unfold word
    refine congrArg (V m c main_arg0) (funext fun a => Fin.ext ?_)
    match a with
    | ⟨0, _⟩ => show (pt m e j).val / 13 - 1 = e.val; rw [pt_div]; omega
  unfold outAt
  rw [hw]
  refine (outOf_apply _ _ _ _ _ _ _ _ (live_row m e j r _ h)).trans ?_
  have hd : (pt m e j).val / 13 - 1 = e.val := by rw [pt_div, Nat.add_sub_cancel]
  refine Finset.sum_congr rfl fun q _ => ?_
  refine congr (congr (congrArg₂ share ?_ ?_) ?_) ?_
  · exact funext fun k => rows_apply m c e j r k
  · exact funext fun k => funext fun p => by rw [hd]; exact (weights_apply m c e q k p).1
  · exact funext fun k => funext fun p => by rw [hd]; exact (weights_apply m c e q k p).2.1
  · exact funext fun p => by rw [hd]; exact (weights_apply m c e q o p).2.2

end Result

end Cert.Exp

end
-- ==== Proof.Exp.Same.lean ====
/-
  The experts' kernel on machine values: its program and the one read on the extended reals are the same text over any
  values, so what is proved of the one's end is proved of the other's.
-/
module

public import proofs.«01_k».proof.Proof.Gen.Kernel3
public import proofs.«01_k».proof.Proof.Exp.Launch

@[expose] public section

set_option maxRecDepth 16384

noncomputable section

namespace Cert.Exp

open Idealize.ShloMosaic Idealize.ShloMosaic.TcCoe Idealize.SL.Sem

variable {F : FTy → Type} [FloatOps F]

/-- The two bodies are one. -/
theorem same_body : @Cert.Kernel3.cc0_expert_ffn F _ _ = @Cert.Kernel3Ideal.cc0_expert_ffn F _ _ := rfl

/-- The two body tables are one. -/
theorem same_table : Cert.Kernel3.defs₀ (F := F) = Cert.Kernel3Ideal.defs₀ (F := F) := by
  unfold Cert.Kernel3.defs₀ Cert.Kernel3Ideal.defs₀
  refine congrArg Defs.onTc ?_
  funext l a
  match l, a with
  | 0, (t, s) => rw [same_body]; rfl

/-- The two programs' definitions are one. -/
theorem same_defs : Cert.Kernel3.defs (F := F) = Cert.Kernel3Ideal.defs (F := F) := by
  unfold Cert.Kernel3.defs Cert.Kernel3Ideal.defs
  exact congrArg _ same_table

/-- The launch on machine values ends with the arguments as they were and the counters at zero. -/
theorem frame_machine (m : (ℓ : Loc Cert.Kernel3.nD Cert.Kernel3.τ Cert.Kernel3.sig) → Buf (Elt F) ℓ) (ρ : Dev Cert.Kernel3.nD → PrngReg) :
    θ_run Cert.Kernel3.defs (onTc (τ := Cert.Kernel3.τ) (Cert.Kernel3.main (F := F))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0) := by
  rw [same_defs]
  exact frame (F := F) m ρ

end Cert.Exp

end
-- ==== Proof.Exp.Ref.lean ====
/-
  The reference's experts read at an element, the mask, and the two programs' results compared where the mask holds.
-/
module

public import proofs.«01_k».proof.Defs
public import proofs.«01_k».proof.Proof.Exp.Value
public import proofs.«01_k».proof.Proof.Exp.Same
public import proofs.«01_k».proof.Proof.Gen.Reference3Ideal.Run
public import proofs.«01_k».proof.Proof.Gen.Reference3Ideal.Read
public import proofs.«01_k».proof.Proof.Gen.On_routed
public import Idealize.ShloMosaic.Lib.Claim
public import Idealize.ShloMosaic.Lib.Quiescent

@[expose] public section

set_option maxRecDepth 16384

noncomputable section

namespace Cert.Exp

open Idealize.ShloMosaic Idealize.ShloMosaic.TcCoe Idealize.SL.Sem

section Reference

open Cert.Reference3Ideal Cert.Reference3Ideal.Gen Cert.Reference3Ideal.Read

/-- A sum over 2048 features, in four shares of 512. -/
theorem sum_shares (g : Fin 2048 → EReal) : ∑ f, g f = ∑ q : Fin 4, ∑ p : Fin 512, g ⟨q.val * 512 + p.val, by omega⟩ := by
  rw [← Equiv.sum_comp (finProdFinEquiv : Fin 4 × Fin 512 ≃ Fin 2048) g, Fintype.sum_prod_type]
  refine Finset.sum_congr rfl fun q _ => Finset.sum_congr rfl fun p _ => congrArg g (Fin.ext ?_)
  show p.val + 512 * q.val = q.val * 512 + p.val
  omega

/-- The reference's result of expert `e` at row `r`. -/
theorem ref_apply (x : (⟨S16x6656x1024, .bf16⟩ : BufTy).Contents (Elt Ideal)) (wg wu : (⟨S16x1024x2048, .f32⟩ : BufTy).Contents (Elt Ideal))
    (wd : (⟨S16x2048x1024, .f32⟩ : BufTy).Contents (Elt Ideal)) (e : Fin 16) (r : Fin 6656) (o : Fin 1024) :
    val_main_v9 x wg wu wd (ix3 ⟨e.val, by omega⟩ r o)
      = ∑ q : Fin 4, share (fun k => x (ix3 e r k)) (fun k p => wg (ix3 e k ⟨q.val * 512 + p.val, by omega⟩))
        (fun k p => wu (ix3 e k ⟨q.val * 512 + p.val, by omega⟩)) (fun p => wd (ix3 e ⟨q.val * 512 + p.val, by omega⟩ o)) := by
  unfold share
  refine Eq.trans ?_ (sum_shares fun f => act (∑ k, x (ix3 e r k) * wg (ix3 e k f)) (∑ k, x (ix3 e r k) * wu (ix3 e k f)) * wd (ix3 e f o))
  unfold act
  have he := e.isLt
  pointwise [val_main_v9, val_main_v8, val_main_v5, val_main_v4, val_main_v3, val_main_v2, val_main_v1, val_main_v0,
    val_main_call0_v5, val_main_call0_v4, val_main_call0_v3, val_main_call0_v2, val_main_call0_v1, val_main_call0_v0,
    val_main_call0_cst, val_main_call0_cst_0]

end Reference

/-- The signed comparison of two words, when it holds. -/
theorem slt_of {a b : BitVec 32} (h : IntOp.cmpi .slt a b = 1#1) : a.toInt < b.toInt := by
  unfold IntOp.cmpi at h
  simpa [BitVec.slt, WordCmp.ofBool_decide_eq_one_iff] using h

/-- A row's number as a word. -/
theorem row_word (i : Cert.On_routed.S17x6656x1024.Idx) : (BitVec.ofNat 32 (i 1).val).toInt = ((i 1).val : ℤ) := by
  have h1 : (i 1).val < 6656 := (i 1).isLt
  have n : (BitVec.ofNat 32 (i 1).val).toNat = (i 1).val := by
    rw [BitVec.toNat_ofNat]
    omega
  rw [BitVec.toInt_eq_toNat_of_lt (by omega), n]

/-- Where the mask holds: a row of one of the sixteen experts, below that expert's number of rows. -/
theorem routed_iff (n : IVec Cert.On_routed.S16 32) (x wg wu wd) (i : Cert.On_routed.S17x6656x1024.Idx)
    (h : Cert.On_routed.fn (F := Ideal) n x wg wu wd i = 1#1) :
    ∃ h : (i 0).val < 16, (((i 1).val : ℕ) : ℤ) < (n (ix1 ⟨(i 0).val, h⟩)).toInt := by
  revert h
  unfold Cert.On_routed.fn
  pointwise []
  intro h
  by_cases h0 : (i 0).val < 16
  · refine ⟨h0, ?_⟩
    rw [dif_pos h0] at h
    have l := slt_of h
    rwa [row_word i] at l
  · rw [dif_neg h0] at h
    have l := slt_of h
    rw [row_word i] at l
    exact absurd l (by simp)

/-- The reference runs to the end, keeps its arguments and, having no semaphore, leaves none off zero. -/
theorem reference_frame : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

section Compare

open Cert.Kernel3Ideal

variable (m : (ℓ : Loc nD τ sig) → Buf (Elt Ideal) ℓ) (c : Dev nD)

/-- Where the mask holds, the result array after the run is the reference's result on the same arguments. -/
theorem final (i : S17x6656x1024.Idx) (h : Cert.On_routed.fn (F := Ideal) (V m c main_arg0) (V m c main_arg1) (V m c main_arg2) (V m c main_arg3)
      (V m c main_arg4) i = 1#1) :
    (dats m 0 c).arrAt 4 (cfg m).N i
      = Cert.Reference3Ideal.Read.val_main_v9 (V m c main_arg1) (V m c main_arg2) (V m c main_arg3) (V m c main_arg4) i := by
  obtain ⟨h0, hr⟩ := routed_iff _ _ _ _ _ i h
  have h1 : (i 1).val < 6656 := (i 1).isLt
  have h2 : (i 2).val < 1024 := (i 2).isLt
  have e : i = (ix3 ⟨(⟨(i 0).val, h0⟩ : Fin 16).val, by omega⟩ ⟨(⟨(i 1).val / 512, by omega⟩ : Fin 13).val * 512
      + (⟨(i 1).val % 512, by omega⟩ : Fin 512).val, by show (i 1).val / 512 * 512 + (i 1).val % 512 < 6656; omega⟩
      ⟨(i 2).val, h2⟩ : S17x6656x1024.Idx) := by
    refine funext fun a => Fin.ext ?_
    match a with
    | ⟨0, _⟩ => rfl
    | ⟨1, _⟩ => show (i 1).val = (i 1).val / 512 * 512 + (i 1).val % 512; omega
    | ⟨2, _⟩ => rfl
  have hr' : ((((⟨(i 1).val / 512, by omega⟩ : Fin 13).val * 512 + (⟨(i 1).val % 512, by omega⟩ : Fin 512).val : ℕ)) : ℤ)
      < (V m c main_arg0 (ix1 ⟨(i 0).val, h0⟩) : BitVec 32).toInt := by
    refine lt_of_eq_of_lt (congrArg Nat.cast ?_) hr
    show (i 1).val / 512 * 512 + (i 1).val % 512 = (i 1).val
    omega
  rw [e]
  exact (final_apply m c _ _ _ _ hr').trans (ref_apply (V m c main_arg1) (V m c main_arg2) (V m c main_arg3) (V m c main_arg4) _ _ _).symm

end Compare

/-- The experts' launch and their reference end with equal results on the extended reals at every routed row, and both keep
    their arguments. -/
theorem equal : Cert.algebraic_Kernel3Ideal_Reference3Ideal_on_routed := by
  intro m g m' g' _ hm
  refine ⟨fun c => (dats m 0 c).arrAt 4 (cfg m).N, ?_, ?_⟩
  · exact (θ_run _ _ _).mono (fun r hr c => ⟨fun i _ => congrFun (hr.1 c) i, hr.2.1 c⟩) (θ_run_and (written m g) (frame m g))
  · refine (θ_run _ _ _).mono (fun r hr c => ⟨fun i h => ?_, (hr c).2⟩) (Cert.Reference3Ideal.Value.run m' g')
    refine (congrFun ((hr c).1.trans (Cert.Reference3Ideal.Read.val_main_v9_eq _ _ _ _)) i).trans ?_
    refine Eq.trans ?_ (final m c i h).symm
    obtain ⟨-, e1, e2, e3, e4⟩ := hm c
    exact congrFun (congr (congr (congrArg₂ Cert.Reference3Ideal.Read.val_main_v9 e1 e2) e3) e4) i

end Cert.Exp

end
-- ==== Proof.Mrg.Body.lean ====
/-
  What a grid point of the merge leaves in its two output blocks over the extended reals: the residual stream after the
  mixers' gated results are projected and normed, and the modulated norm of that, which the experts read.
-/
module

public import proofs.«01_k».proof.Proof.Gen.Kernel4Ideal.Value
public import proofs.«01_k».proof.Proof.Inp.Body

@[expose] public section

set_option maxRecDepth 16384

noncomputable section

namespace Cert.Mrg

open Cert.Kernel4Ideal Cert.Kernel4Ideal.Gen Idealize.ShloMosaic Idealize.ShloMosaic.TcCoe Idealize.SL.Sem
open Cert.Inp (Row hid)

/-! ## The functions of a row -/

/-- A mixer's result passed through its gate. -/
def gated (z y : EReal) : EReal := Ideal.div 1 (1 + Ideal.exp (-z)) * y

/-- The merged row at a feature: the two mixers' results of 512 columns, each projected and passed through its gate. -/
def merged (yr yh : Fin 512 → EReal) (za zb : Row) (wr wh : Fin 512 → Row) (f : Fin 1024) : EReal :=
  gated (za f) (∑ p, yr p * wr p f) + gated (zb f) (∑ p, yh p * wh p f)

/-- The merged row through the output projection. -/
def projected (M : Row) (wo : Fin 1024 → Row) (k : Fin 1024) : EReal := ∑ f, M f * wo f k

/-- The residual row: the row that came in, plus the projected one over its root mean square, by the two gains. -/
def residual (x o ga gp : Row) (k : Fin 1024) : EReal :=
  x k + o k * Ideal.rsqrt (Ideal.div (∑ p, o p * o p) (Ideal.ofBits .f32 0x44800000#32) + Ideal.ofBits .f32 0x358637BD#32)
    * (ga k * gp k)

/-! ## The payloads at an element -/

section Pays

variable (x : Vec Ideal S1x512x1024 .f32) (yr yh : Vec Ideal S1x512x512 .bf16) (za zb : Vec Ideal S1x512x1024 .bf16)
  (ga sc sh : Vec Ideal S1x1x1024 .f32) (gp gq : Vec Ideal S1x1024 .f32) (wr wh : Vec Ideal S512x1024 .bf16)
  (wo : Vec Ideal S1024x1024 .bf16) (r : Fin 512)

/-- The merged row of the block's row `r`. -/
def rowM : Row := merged (fun p => yr (ix3 0 r p)) (fun p => yh (ix3 0 r p)) (fun k => za (ix3 0 r k)) (fun k => zb (ix3 0 r k))
  (fun p k => wr (ix2 p k)) (fun p k => wh (ix2 p k))

/-- The residual row of the block's row `r`. -/
def rowR : Row := residual (fun k => x (ix3 0 r k)) (projected (rowM yr yh za zb wr wh r) fun f k => wo (ix2 f k))
  (fun k => ga (ix3 0 0 k)) (fun k => gp (ix2 0 k))

/-- The experts' input row of the block's row `r`. -/
def rowH : Row := hid (rowR x yr yh za zb ga gp wr wh wo r) (fun k => sc (ix3 0 0 k)) (fun k => sh (ix3 0 0 k)) (fun k => gq (ix2 0 k))

/-- The merged rows. -/
theorem merged_apply (f : Fin 1024) : k0_pay1 yr wr yh wh za zb (ix2 r f) = rowM yr yh za zb wr wh r f := by
  unfold rowM merged gated
  pointwise [k0_pay1]
  simp only [zero_sub]

/-- The residual rows, of any rows to project. -/
theorem residual_apply (M : FVec Ideal S512x1024 .bf16) (k : Fin 1024) : k0_pay2 M wo x ga gp (ix2 r k)
    = residual (fun k => x (ix3 0 r k)) (projected (fun f => M (ix2 r f)) fun f k => wo (ix2 f k)) (fun k => ga (ix3 0 0 k))
      (fun k => gp (ix2 0 k)) k := by
  unfold residual projected
  pointwise [k0_pay2]

/-- The residual rows as they are stored. -/
theorem stored_apply (M : FVec Ideal S512x1024 .bf16) (k : Fin 1024) :
    k0_pay3 M wo x ga gp (ix3 0 r k) = k0_pay2 M wo x ga gp (ix2 r k) := by
  unfold k0_pay3
  generalize k0_pay2 M wo x ga gp = A
  pointwise []

/-- The residual rows over their root mean square. -/
theorem normed_apply (M : FVec Ideal S512x1024 .bf16) (k : Fin 1024) : k0_pay4 M wo x ga gp (ix2 r k)
    = k0_pay2 M wo x ga gp (ix2 r k) * Ideal.rsqrt (Ideal.div (∑ p : Fin 1024, k0_pay2 M wo x ga gp (ix2 r p)
        * k0_pay2 M wo x ga gp (ix2 r p)) (Ideal.ofBits .f32 0x44800000#32) + Ideal.ofBits .f32 0x358637BD#32) := by
  unfold k0_pay4
  generalize k0_pay2 M wo x ga gp = A
  pointwise []

/-- The modulation of normed rows. -/
theorem modulated_apply (N : FVec Ideal S512x1024 .f32) (k : Fin 1024) : k0_pay7 N gq sc sh (ix3 0 r k)
    = N (ix2 r k) * (gq (ix2 0 k) * (1 + sc (ix3 0 0 k))) + sh (ix3 0 0 k) := by
  pointwise [k0_pay7, k0_pay6, k0_pay5]

/-- The first output's row. -/
theorem first_apply (k : Fin 1024) : k0_pay3 (k0_pay1 yr wr yh wh za zb) wo x ga gp (ix3 0 r k)
    = rowR x yr yh za zb ga gp wr wh wo r k := by
  rw [stored_apply, residual_apply]
  unfold rowR
  simp only [merged_apply]

/-- The second output's row. -/
theorem second_apply (k : Fin 1024) : k0_pay7 (k0_pay4 (k0_pay1 yr wr yh wh za zb) wo x ga gp) gq sc sh (ix3 0 r k)
    = rowH x yr yh za zb ga sc sh gp gq wr wh wo r k := by
  rw [modulated_apply, normed_apply]
  unfold rowH hid
  have h (p : Fin 1024) : k0_pay2 (k0_pay1 yr wr yh wh za zb) wo x ga gp (ix2 r p) = rowR x yr yh za zb ga gp wr wh wo r p := by
    rw [← stored_apply, first_apply]
  simp only [h]

end Pays

/-! ## What the body leaves in its blocks -/

variable (m : (ℓ : Loc nD τ sig) → Buf (Elt Ideal) ℓ)

set_option maxHeartbeats 4000000 in
set_option backward.isDefEq.respectTransparency false in
/-- What grid point `t` leaves in its first output block. -/
theorem outsAt_first (c : Dev nD) (t : Fin cfg0.N) :
    (outsAt0 m c t).1 = k0_pay3 (k0_pay1 (iblk m c 1 t) (iblk m c 10 t) (iblk m c 2 t) (iblk m c 11 t) (X0_3 m c t) (X0_4 m c t))
      (iblk m c 12 t) (iblk m c 0 t) (iblk m c 5 t) (iblk m c 8 t) := by
  unfold outsAt0 out0_A_14
  dsimp only
  rw [View.read_writes_eq_canon _ _ _ (cover0_A_14 c _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [Cert.Inp.readAt_all (s := S1x512x1024) _ _ _ ![0, 0, 0] (by decide), Cert.Inp.readAt_all (s := S1x1x1024) _ _ _ ![0, 0, 0] (by decide),
    Cert.Inp.readAt_all (s := S1x1024) _ _ _ ![0, 0] (by decide), Cert.Inp.readAt_all (s := S1x512x512) _ _ _ ![0, 0, 0] (by decide),
    Cert.Inp.readAt_all (s := S512x1024) _ _ _ ![0, 0] (by decide), Cert.Inp.readAt_all (s := S1024x1024) _ _ _ ![0, 0] (by decide)]
  exact View.canon_cons_unit_lit _ _ _ (by decide)

set_option maxHeartbeats 4000000 in
set_option backward.isDefEq.respectTransparency false in
/-- What grid point `t` leaves in its second output block. -/
theorem outsAt_second (c : Dev nD) (t : Fin cfg0.N) :
    (outsAt0 m c t).2.1 = k0_pay7 (k0_pay4 (k0_pay1 (iblk m c 1 t) (iblk m c 10 t) (iblk m c 2 t) (iblk m c 11 t) (X0_3 m c t)
      (X0_4 m c t)) (iblk m c 12 t) (iblk m c 0 t) (iblk m c 5 t) (iblk m c 8 t)) (iblk m c 9 t) (iblk m c 6 t) (iblk m c 7 t) := by
  unfold outsAt0 out0_A_15
  dsimp only
  rw [View.read_writes_eq_canon _ _ _ (cover0_A_15 c _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [Cert.Inp.readAt_all (s := S1x512x1024) _ _ _ ![0, 0, 0] (by decide), Cert.Inp.readAt_all (s := S1x1x1024) _ _ _ ![0, 0, 0] (by decide),
    Cert.Inp.readAt_all (s := S1x1024) _ _ _ ![0, 0] (by decide), Cert.Inp.readAt_all (s := S1x512x512) _ _ _ ![0, 0, 0] (by decide),
    Cert.Inp.readAt_all (s := S512x1024) _ _ _ ![0, 0] (by decide), Cert.Inp.readAt_all (s := S1024x1024) _ _ _ ![0, 0] (by decide)]
  exact View.canon_cons_unit_lit _ _ _ (by decide)

end Cert.Mrg
end
-- ==== Proof.Mrg.Ref.lean ====
/-
  The reference's merge read at an element.
-/
module

public import proofs.«01_k».proof.Proof.Gen.Reference4Ideal.Read
public import proofs.«01_k».proof.Proof.Mrg.Body

@[expose] public section

set_option maxRecDepth 16384

noncomputable section

namespace Cert.Mrg.Ref

open Cert.Reference4Ideal Cert.Reference4Ideal.Gen Cert.Reference4Ideal.Read Idealize.ShloMosaic Idealize.ShloMosaic.TcCoe
open Idealize.SL.Sem
open Cert.Inp (Row hid)

/-- The merge's arguments. -/
abbrev X := (⟨S8x2048x1024, .f32⟩ : BufTy).Contents (Elt Ideal)
abbrev Y := (⟨S8x2048x512, .bf16⟩ : BufTy).Contents (Elt Ideal)
abbrev U := (⟨S8x2048x6656, .bf16⟩ : BufTy).Contents (Elt Ideal)
abbrev M := (⟨S8x1x1024, .f32⟩ : BufTy).Contents (Elt Ideal)
abbrev G := (⟨S1024, .f32⟩ : BufTy).Contents (Elt Ideal)
abbrev B := (⟨S512x1024, .f32⟩ : BufTy).Contents (Elt Ideal)
abbrev O := (⟨S1024x1024, .f32⟩ : BufTy).Contents (Elt Ideal)

variable (x : X) (yr yh : Y) (u : U) (ga sc sh : M) (gp gq : G) (wr wh : B) (wo : O) (b : Fin 8) (r : Fin 2048)

/-- The merged row of row `r` of batch `b`: its gates are the first 1024 columns of the projection and the next 1024. -/
def rowM : Row := merged (fun p => yr (ix3 b r p)) (fun p => yh (ix3 b r p)) (fun k => u (ix3 b r ⟨k.val, by omega⟩))
  (fun k => u (ix3 b r ⟨1024 + k.val, by omega⟩)) (fun p k => wr (ix2 p k)) (fun p k => wh (ix2 p k))

/-- The residual row of row `r` of batch `b`. -/
def rowR : Row := residual (fun k => x (ix3 b r k)) (projected (rowM yr yh u wr wh b r) fun f k => wo (ix2 f k))
  (fun k => ga (ix3 b 0 k)) (fun k => gp (ix1 k))

/-- The experts' input row of row `r` of batch `b`. -/
def rowH : Row := hid (rowR x yr yh u ga gp wr wh wo b r) (fun k => sc (ix3 b 0 k)) (fun k => sh (ix3 b 0 k)) (fun k => gq (ix1 k))

/-- The reference's merged rows. -/
theorem merged_apply (f : Fin 1024) : val_main_v22 yr yh u wr wh (ix3 b r f) = rowM yr yh u wr wh b r f := by
  unfold rowM merged gated
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2]

/-- The reference's projected rows. -/
theorem projected_apply (k : Fin 1024) :
    val_main_v23 yr yh u wr wh wo (ix3 b r k) = projected (rowM yr yh u wr wh b r) (fun f k => wo (ix2 f k)) k := by
  unfold projected
  pointwise [val_main_v23]
  simp only [merged_apply]

/-- The reference's residual rows. -/
theorem residual_apply (k : Fin 1024) :
    val_main_v39 x yr yh u ga gp wr wh wo (ix3 b r k) = rowR x yr yh u ga gp wr wh wo b r k := by
  pointwise [val_main_v39, val_main_v38, val_main_v37, val_main_v36, val_main_v35, val_main_v34, val_main_v33, val_main_v32,
    val_main_v31, val_main_v30, val_main_v29, val_main_v28, val_main_v27, val_main_v26, val_main_v25, val_main_v24,
    val_main_cst_3, val_main_cst_4, val_main_cst_5]
  simp only [projected_apply]
  unfold rowR residual
  rw [mul_left_comm]

/-- The reference's rows for the experts. -/
theorem hid_apply (k : Fin 1024) :
    val_main_v59 x yr yh u ga sc sh gp gq wr wh wo (ix3 b r k) = rowH x yr yh u ga sc sh gp gq wr wh wo b r k := by
  pointwise [val_main_v59, val_main_v58, val_main_v57, val_main_v56, val_main_v55, val_main_v54, val_main_v53, val_main_v52,
    val_main_v51, val_main_v50, val_main_v49, val_main_v48, val_main_v47, val_main_v46, val_main_v45, val_main_v44,
    val_main_v43, val_main_v42, val_main_v41, val_main_v40, val_main_cst_6, val_main_cst_7, val_main_cst_8, val_main_cst_9]
  simp only [residual_apply]
  unfold rowH hid
  rw [mul_assoc (_ * _) _ _]

end Cert.Mrg.Ref
end
-- ==== Proof.Mrg.Launch.lean ====
/-
  The merge's two result arrays, read at an element: what the blocks of one grid point hold of the arguments, what that
  point writes, and the two programs' results compared.
-/
module

public import proofs.«01_k».proof.Defs
public import proofs.«01_k».proof.Proof.Mrg.Body
public import proofs.«01_k».proof.Proof.Mrg.Ref
public import proofs.«01_k».proof.Proof.Gen.Kernel4Ideal.Value
public import proofs.«01_k».proof.Proof.Gen.Reference4Ideal.Run
public import Idealize.ShloMosaic.Lib.StableHlo.ReadAt
public import Idealize.ShloMosaic.Lib.Claim
public import Idealize.ShloMosaic.Lib.Quiescent

@[expose] public section

set_option maxRecDepth 16384

noncomputable section

namespace Cert.Mrg

open Cert.Kernel4Ideal Cert.Kernel4Ideal.Gen Idealize.ShloMosaic Idealize.ShloMosaic.TcCoe Idealize.SL.Sem
open Cert.Reference4Ideal.Read
open Cert.Inp (hid)

/-- The grid point of batch `b` and row block `q`. -/
def pt (b : Fin 8) (q : Fin 4) : Fin cfg0.N := ⟨b.val * 4 + q.val, by
  have e : cfg0.N = 32 := N_0
  omega⟩

/-- The rows and the results sit at their batch and row block, the gates' columns there too, one block after the other. -/
theorem places_rows : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 1)
    ∧ (win0_14.index t (0 : Fin 3) = t.val / 4 ∧ win0_14.index t (1 : Fin 3) = t.val % 4 ∧ win0_14.index t (2 : Fin 3) = 0)
    ∧ (win0_15.index t (0 : Fin 3) = t.val / 4 ∧ win0_15.index t (1 : Fin 3) = t.val % 4 ∧ win0_15.index t (2 : Fin 3) = 0) :=
  (by decide +kernel : ∀ t : Fin grid0.N, _)

/-- The modulation sits at its batch; the norms' gains and the weights are whole. -/
theorem places_weights : ∀ t : Fin cfg0.N,
    (win0_5.index t (0 : Fin 3) = t.val / 4 ∧ win0_5.index t (1 : Fin 3) = 0 ∧ win0_5.index t (2 : Fin 3) = 0)
    ∧ (win0_6.index t (0 : Fin 3) = t.val / 4 ∧ win0_6.index t (1 : Fin 3) = 0 ∧ win0_6.index t (2 : Fin 3) = 0)
    ∧ (win0_7.index t (0 : Fin 3) = t.val / 4 ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

variable (m : (ℓ : Loc nD τ sig) → Buf (Elt Ideal) ℓ) (c : Dev nD)

/-- The arguments the launch finds. -/
abbrev argX : Ref.X := m ((c : Thread nD τ).loc main_arg0)
abbrev argR : Ref.Y := m ((c : Thread nD τ).loc main_arg1)
abbrev argH : Ref.Y := m ((c : Thread nD τ).loc main_arg2)
abbrev argU : Ref.U := m ((c : Thread nD τ).loc main_arg3)
abbrev argGa : Ref.M := m ((c : Thread nD τ).loc main_arg4)
abbrev argSc : Ref.M := m ((c : Thread nD τ).loc main_arg5)
abbrev argSh : Ref.M := m ((c : Thread nD τ).loc main_arg6)
abbrev argPost : Ref.G := m ((c : Thread nD τ).loc main_arg7)
abbrev argPre : Ref.G := m ((c : Thread nD τ).loc main_arg8)
abbrev argWr : Ref.B := m ((c : Thread nD τ).loc main_arg9)
abbrev argWh : Ref.B := m ((c : Thread nD τ).loc main_arg10)
abbrev argWo : Ref.O := m ((c : Thread nD τ).loc main_arg11)

/-- The two norms' gains are handed over as rows. -/
theorem gains_apply (k : Fin 1024) :
    V m c main_v9 (ix2 0 k) = argPost m c (ix1 k) ∧ V m c main_v10 (ix2 0 k) = argPre m c (ix1 k) := by
  constructor
  all_goals
    unfold V
    after_reads_at
    done

/-- The weights are handed over as they are. -/
theorem weights_apply (p : Fin 512) (k f : Fin 1024) :
    V m c main_v0 (ix2 p k) = argWr m c (ix2 p k) ∧ V m c main_v1 (ix2 p k) = argWh m c (ix2 p k)
    ∧ V m c main_v2 (ix2 f k) = argWo m c (ix2 f k) := by
  refine ⟨?_, ?_, ?_⟩
  all_goals
    unfold V
    after_reads_at
    done

section Blocks

variable (b : Fin 8) (q : Fin 4)

theorem pt_div : (pt b q).val / 4 = b.val := by show (b.val * 4 + q.val) / 4 = b.val; omega
theorem pt_mod : (pt b q).val % 4 = q.val := by show (b.val * 4 + q.val) % 4 = q.val; omega

/-- Row `r` of row block `q`. -/
abbrev at_ (r : Fin 512) : Fin 2048 := ⟨q.val * 512 + r.val, by omega⟩

/-- The blocks of the rows: the residual stream's, the two mixers' and the two gates'. -/
theorem block_rows (r : Fin 512) (p : Fin 512) (k : Fin 1024) :
    iblk m c 0 (pt b q) (ix3 0 r k) = argX m c (ix3 b (at_ q r) k)
    ∧ iblk m c 1 (pt b q) (ix3 0 r p) = argR m c (ix3 b (at_ q r) p)
    ∧ iblk m c 2 (pt b q) (ix3 0 r p) = argH m c (ix3 b (at_ q r) p)
    ∧ X0_3 m c (pt b q) (ix3 0 r k) = argU m c (ix3 b (at_ q r) ⟨k.val, by omega⟩)
    ∧ X0_4 m c (pt b q) (ix3 0 r k) = argU m c (ix3 b (at_ q r) ⟨1024 + k.val, by omega⟩) := by
  obtain ⟨⟨a0, a1, a2⟩, ⟨b0, b1, b2⟩, ⟨c0, c1, c2⟩, ⟨d0, d1, d2⟩, ⟨e0, e1, e2⟩, -⟩ := places_rows (pt b q)
  rw [pt_div b q] at a0 b0 c0 d0 e0
  rw [pt_mod b q] at a1 b1 c1 d1 e1
  refine ⟨?_, ?_, ?_, ?_, ?_⟩
  · show V m c main_arg0 _ = _
    rw [V_main_arg0]
    refine congrArg (argX m c) (funext fun a => Fin.ext ?_)
    match a with
    | ⟨0, _⟩ => show win0_0.index (pt b q) (0 : Fin 3) * 1 + 1 * 0 = b.val; omega
    | ⟨1, _⟩ => show win0_0.index (pt b q) (1 : Fin 3) * 512 + 1 * r.val = q.val * 512 + r.val; omega
    | ⟨2, _⟩ => show win0_0.index (pt b q) (2 : Fin 3) * 1024 + 1 * k.val = k.val; omega
  · show V m c main_arg1 _ = _
    rw [V_main_arg1]
    refine congrArg (argR m c) (funext fun a => Fin.ext ?_)
    match a with
    | ⟨0, _⟩ => show win0_1.index (pt b q) (0 : Fin 3) * 1 + 1 * 0 = b.val; omega
    | ⟨1, _⟩ => show win0_1.index (pt b q) (1 : Fin 3) * 512 + 1 * r.val = q.val * 512 + r.val; omega
    | ⟨2, _⟩ => show win0_1.index (pt b q) (2 : Fin 3) * 512 + 1 * p.val = p.val; omega
  · show V m c main_arg2 _ = _
    rw [V_main_arg2]
    refine congrArg (argH m c) (funext fun a => Fin.ext ?_)
    match a with
    | ⟨0, _⟩ => show win0_2.index (pt b q) (0 : Fin 3) * 1 + 1 * 0 = b.val; omega
    | ⟨1, _⟩ => show win0_2.index (pt b q) (1 : Fin 3) * 512 + 1 * r.val = q.val * 512 + r.val; omega
    | ⟨2, _⟩ => show win0_2.index (pt b q) (2 : Fin 3) * 512 + 1 * p.val = p.val; omega
  · unfold X0_3 Pipeline.Window.fill
    rw [dif_pos (moved0_3 _ _)]
    show V m c main_arg3 _ = _
    rw [V_main_arg3]
    refine congrArg (argU m c) (funext fun a => Fin.ext ?_)
    match a with
    | ⟨0, _⟩ => show win0_3.index (pt b q) (0 : Fin 3) * 1 + 1 * 0 = b.val; omega
    | ⟨1, _⟩ => show win0_3.index (pt b q) (1 : Fin 3) * 512 + 1 * r.val = q.val * 512 + r.val; omega
    | ⟨2, _⟩ => show win0_3.index (pt b q) (2 : Fin 3) * 1024 + 1 * k.val = k.val; omega
  · unfold X0_4 Pipeline.Window.fill
    rw [dif_pos (moved0_4 _ _)]
    show V m c main_arg3 _ = _
    rw [V_main_arg3]
    refine congrArg (argU m c) (funext fun a => Fin.ext ?_)
    match a with
    | ⟨0, _⟩ => show win0_4.index (pt b q) (0 : Fin 3) * 1 + 1 * 0 = b.val; omega
    | ⟨1, _⟩ => show win0_4.index (pt b q) (1 : Fin 3) * 512 + 1 * r.val = q.val * 512 + r.val; omega
    | ⟨2, _⟩ => show win0_4.index (pt b q) (2 : Fin 3) * 1024 + 1 * k.val = 1024 + k.val; omega

/-- The blocks of the modulation. -/
theorem block_modulation (k : Fin 1024) :
    iblk m c 5 (pt b q) (ix3 0 0 k) = argGa m c (ix3 b 0 k)
    ∧ iblk m c 6 (pt b q) (ix3 0 0 k) = argSc m c (ix3 b 0 k)
    ∧ iblk m c 7 (pt b q) (ix3 0 0 k) = argSh m c (ix3 b 0 k) := by
  obtain ⟨⟨a0, a1, a2⟩, ⟨b0, b1, b2⟩, ⟨c0, c1, c2⟩, -⟩ := places_weights (pt b q)
  rw [pt_div b q] at a0 b0 c0
  refine ⟨?_, ?_, ?_⟩
  · show V m c main_arg4 _ = _
    rw [V_main_arg4]
    refine congrArg (argGa m c) (funext fun a => Fin.ext ?_)
    match a with
    | ⟨0, _⟩ => show win0_5.index (pt b q) (0 : Fin 3) * 1 + 1 * 0 = b.val; omega
    | ⟨1, _⟩ => show win0_5.index (pt b q) (1 : Fin 3) * 1 + 1 * 0 = 0; omega
    | ⟨2, _⟩ => show win0_5.index (pt b q) (2 : Fin 3) * 1024 + 1 * k.val = k.val; omega
  · show V m c main_arg5 _ = _
    rw [V_main_arg5]
    refine congrArg (argSc m c) (funext fun a => Fin.ext ?_)
    match a with
    | ⟨0, _⟩ => show win0_6.index (pt b q) (0 : Fin 3) * 1 + 1 * 0 = b.val; omega
    | ⟨1, _⟩ => show win0_6.index (pt b q) (1 : Fin 3) * 1 + 1 * 0 = 0; omega
    | ⟨2, _⟩ => show win0_6.index (pt b q) (2 : Fin 3) * 1024 + 1 * k.val = k.val; omega
  · show V m c main_arg6 _ = _
    rw [V_main_arg6]
    refine congrArg (argSh m c) (funext fun a => Fin.ext ?_)
    match a with
    | ⟨0, _⟩ => show win0_7.index (pt b q) (0 : Fin 3) * 1 + 1 * 0 = b.val; omega
    | ⟨1, _⟩ => show win0_7.index (pt b q) (1 : Fin 3) * 1 + 1 * 0 = 0; omega
    | ⟨2, _⟩ => show win0_7.index (pt b q) (2 : Fin 3) * 1024 + 1 * k.val = k.val; omega

/-- The blocks of the norms' gains. -/
theorem block_gains (k : Fin 1024) :
    iblk m c 8 (pt b q) (ix2 0 k) = argPost m c (ix1 k) ∧ iblk m c 9 (pt b q) (ix2 0 k) = argPre m c (ix1 k) := by
  obtain ⟨-, -, -, ⟨a0, a1⟩, ⟨b0, b1⟩, -⟩ := places_weights (pt b q)
  refine ⟨?_, ?_⟩
  · refine Eq.trans (b := V m c main_v9 (ix2 0 k)) ?_ (gains_apply m c k).1
    show V m c main_v9 _ = _
    refine congrArg (V m c main_v9) (funext fun a => Fin.ext ?_)
    match a with
    | ⟨0, _⟩ => show win0_8.index (pt b q) (0 : Fin 2) * 1 + 1 * 0 = 0; omega
    | ⟨1, _⟩ => show win0_8.index (pt b q) (1 : Fin 2) * 1024 + 1 * k.val = k.val; omega
  · refine Eq.trans (b := V m c main_v10 (ix2 0 k)) ?_ (gains_apply m c k).2
    show V m c main_v10 _ = _
    refine congrArg (V m c main_v10) (funext fun a => Fin.ext ?_)
    match a with
    | ⟨0, _⟩ => show win0_9.index (pt b q) (0 : Fin 2) * 1 + 1 * 0 = 0; omega
    | ⟨1, _⟩ => show win0_9.index (pt b q) (1 : Fin 2) * 1024 + 1 * k.val = k.val; omega

/-- The blocks of the weights. -/
theorem block_weights (p : Fin 512) (f k : Fin 1024) :
    iblk m c 10 (pt b q) (ix2 p k) = argWr m c (ix2 p k) ∧ iblk m c 11 (pt b q) (ix2 p k) = argWh m c (ix2 p k)
    ∧ iblk m c 12 (pt b q) (ix2 f k) = argWo m c (ix2 f k) := by
  obtain ⟨-, -, -, -, -, ⟨a0, a1⟩, ⟨b0, b1⟩, ⟨c0, c1⟩⟩ := places_weights (pt b q)
  refine ⟨?_, ?_, ?_⟩
  · refine Eq.trans (b := V m c main_v0 (ix2 p k)) ?_ (weights_apply m c p k f).1
    show V m c main_v0 _ = _
    refine congrArg (V m c main_v0) (funext fun a => Fin.ext ?_)
    match a with
    | ⟨0, _⟩ => show win0_10.index (pt b q) (0 : Fin 2) * 512 + 1 * p.val = p.val; omega
    | ⟨1, _⟩ => show win0_10.index (pt b q) (1 : Fin 2) * 1024 + 1 * k.val = k.val; omega
  · refine Eq.trans (b := V m c main_v1 (ix2 p k)) ?_ (weights_apply m c p k f).2.1
    show V m c main_v1 _ = _
    refine congrArg (V m c main_v1) (funext fun a => Fin.ext ?_)
    match a with
    | ⟨0, _⟩ => show win0_11.index (pt b q) (0 : Fin 2) * 512 + 1 * p.val = p.val; omega
    | ⟨1, _⟩ => show win0_11.index (pt b q) (1 : Fin 2) * 1024 + 1 * k.val = k.val; omega
  · refine Eq.trans (b := V m c main_v2 (ix2 f k)) ?_ (weights_apply m c p k f).2.2
    show V m c main_v2 _ = _
    refine congrArg (V m c main_v2) (funext fun a => Fin.ext ?_)
    match a with
    | ⟨0, _⟩ => show win0_12.index (pt b q) (0 : Fin 2) * 1024 + 1 * f.val = f.val; omega
    | ⟨1, _⟩ => show win0_12.index (pt b q) (1 : Fin 2) * 1024 + 1 * k.val = k.val; omega

/-- The residual row of a grid point's blocks is the reference's. -/
theorem rowR_eq (r : Fin 512) :
    rowR (iblk m c 0 (pt b q)) (iblk m c 1 (pt b q)) (iblk m c 2 (pt b q)) (X0_3 m c (pt b q)) (X0_4 m c (pt b q))
      (iblk m c 5 (pt b q)) (iblk m c 8 (pt b q)) (iblk m c 10 (pt b q)) (iblk m c 11 (pt b q)) (iblk m c 12 (pt b q)) r
    = Ref.rowR (argX m c) (argR m c) (argH m c) (argU m c) (argGa m c) (argPost m c) (argWr m c) (argWh m c) (argWo m c) b
      (at_ q r) := by
  have hr (p k) := block_rows m c b q r p k
  unfold rowR Ref.rowR
  refine congr (congr (congrArg₂ residual ?_ (congrArg₂ projected ?_ ?_)) ?_) ?_
  · exact funext fun k => (hr 0 k).1
  · unfold rowM Ref.rowM
    refine congr (congr (congr (congr (congrArg₂ merged ?_ ?_) ?_) ?_) ?_) ?_ <;> funext k
    · exact (hr k 0).2.1
    · exact (hr k 0).2.2.1
    · exact (hr 0 k).2.2.2.1
    · exact (hr 0 k).2.2.2.2
    · exact funext fun j => (block_weights m c b q k 0 j).1
    · exact funext fun j => (block_weights m c b q k 0 j).2.1
  · exact funext fun f => funext fun k => (block_weights m c b q 0 f k).2.2
  · exact funext fun k => (block_modulation m c b q k).1
  · exact funext fun k => (block_gains m c b q k).1

/-- The experts' row of a grid point's blocks is the reference's. -/
theorem rowH_eq (r : Fin 512) :
    rowH (iblk m c 0 (pt b q)) (iblk m c 1 (pt b q)) (iblk m c 2 (pt b q)) (X0_3 m c (pt b q)) (X0_4 m c (pt b q))
      (iblk m c 5 (pt b q)) (iblk m c 6 (pt b q)) (iblk m c 7 (pt b q)) (iblk m c 8 (pt b q)) (iblk m c 9 (pt b q))
      (iblk m c 10 (pt b q)) (iblk m c 11 (pt b q)) (iblk m c 12 (pt b q)) r
    = Ref.rowH (argX m c) (argR m c) (argH m c) (argU m c) (argGa m c) (argSc m c) (argSh m c) (argPost m c) (argPre m c)
      (argWr m c) (argWh m c) (argWo m c) b (at_ q r) := by
  unfold rowH Ref.rowH
  refine congr (congr (congrArg₂ hid (rowR_eq m c b q r) ?_) ?_) ?_ <;> funext k
  · exact (block_modulation m c b q k).2.1
  · exact (block_modulation m c b q k).2.2
  · exact (block_gains m c b q k).2

/-- The first result after the run, at an element: the reference's residual stream. -/
theorem first_final_apply (r : Fin 512) (k : Fin 1024) : (dats m 0 c).arrAt 14 cfg0.N (ix3 b (at_ q r) k)
    = val_main_v39 (argX m c) (argR m c) (argH m c) (argU m c) (argGa m c) (argPost m c) (argWr m c) (argWh m c)
      (argWo m c) (ix3 b (at_ q r) k) := by
  obtain ⟨-, -, -, -, -, ⟨a0, a1, a2⟩, -⟩ := places_rows (pt b q)
  rw [pt_div b q] at a0
  rw [pt_mod b q] at a1
  have e : ((cfg0.win 14).blk (pt b q)).view.emb (ix3 0 r k) = (ix3 b (at_ q r) k : S8x2048x1024.Idx) := by
    refine funext fun a => Fin.ext ?_
    match a with
    | ⟨0, _⟩ => show win0_14.index (pt b q) (0 : Fin 3) * 1 + 1 * 0 = b.val; omega
    | ⟨1, _⟩ => show win0_14.index (pt b q) (1 : Fin 3) * 512 + 1 * r.val = q.val * 512 + r.val; omega
    | ⟨2, _⟩ => show win0_14.index (pt b q) (2 : Fin 3) * 1024 + 1 * k.val = k.val; omega
  have hb := congrFun (Cert.Kernel4Ideal.Value.blocks14 m c (pt b q) (flush0_14 (pt b q))) (ix3 0 r k)
  rw [Cert.Kernel4Ideal.Value.flushed14, outsAt_first] at hb
  generalize (dats m 0 c).arrAt 14 cfg0.N = A at hb ⊢
  have hb' : A (((cfg0.win 14).blk (pt b q)).view.emb (ix3 0 r k)) = k0_pay3 (k0_pay1 (iblk m c 1 (pt b q)) (iblk m c 10 (pt b q)) (iblk m c 2 (pt b q))
      (iblk m c 11 (pt b q)) (X0_3 m c (pt b q)) (X0_4 m c (pt b q))) (iblk m c 12 (pt b q)) (iblk m c 0 (pt b q))
      (iblk m c 5 (pt b q)) (iblk m c 8 (pt b q)) (ix3 0 r k) := hb
  rw [e] at hb'
  refine hb'.trans ?_
  rw [first_apply, rowR_eq, Ref.residual_apply]

/-- The second result after the run, at an element: the reference's rows for the experts. -/
theorem second_final_apply (r : Fin 512) (k : Fin 1024) : (dats m 0 c).arrAt 15 cfg0.N (ix3 b (at_ q r) k)
    = val_main_v59 (argX m c) (argR m c) (argH m c) (argU m c) (argGa m c) (argSc m c) (argSh m c) (argPost m c)
      (argPre m c) (argWr m c) (argWh m c) (argWo m c) (ix3 b (at_ q r) k) := by
  obtain ⟨-, -, -, -, -, -, ⟨a0, a1, a2⟩⟩ := places_rows (pt b q)
  rw [pt_div b q] at a0
  rw [pt_mod b q] at a1
  have e : ((cfg0.win 15).blk (pt b q)).view.emb (ix3 0 r k) = (ix3 b (at_ q r) k : S8x2048x1024.Idx) := by
    refine funext fun a => Fin.ext ?_
    match a with
    | ⟨0, _⟩ => show win0_15.index (pt b q) (0 : Fin 3) * 1 + 1 * 0 = b.val; omega
    | ⟨1, _⟩ => show win0_15.index (pt b q) (1 : Fin 3) * 512 + 1 * r.val = q.val * 512 + r.val; omega
    | ⟨2, _⟩ => show win0_15.index (pt b q) (2 : Fin 3) * 1024 + 1 * k.val = k.val; omega
  have hb := congrFun (Cert.Kernel4Ideal.Value.blocks15 m c (pt b q) (flush0_15 (pt b q))) (ix3 0 r k)
  rw [Cert.Kernel4Ideal.Value.flushed15, outsAt_second] at hb
  generalize (dats m 0 c).arrAt 15 cfg0.N = A at hb ⊢
  have hb' : A (((cfg0.win 15).blk (pt b q)).view.emb (ix3 0 r k)) = k0_pay7 (k0_pay4 (k0_pay1 (iblk m c 1 (pt b q)) (iblk m c 10 (pt b q)) (iblk m c 2 (pt b q))
      (iblk m c 11 (pt b q)) (X0_3 m c (pt b q)) (X0_4 m c (pt b q))) (iblk m c 12 (pt b q)) (iblk m c 0 (pt b q))
      (iblk m c 5 (pt b q)) (iblk m c 8 (pt b q)))
      (iblk m c 9 (pt b q)) (iblk m c 6 (pt b q)) (iblk m c 7 (pt b q)) (ix3 0 r k) := hb
  rw [e] at hb'
  refine hb'.trans ?_
  rw [second_apply, rowH_eq, Ref.hid_apply]

end Blocks

/-- Two arrays that agree at every row of every row block are equal. -/
theorem by_rows {A A' : S8x2048x1024.Idx → EReal}
    (h : ∀ (b : Fin 8) (q : Fin 4) (r : Fin 512) (k : Fin 1024), A (ix3 b (at_ q r) k) = A' (ix3 b (at_ q r) k)) : A = A' := by
  funext i
  have h0 : (i 0).val < 8 := (i 0).isLt
  have h1 : (i 1).val < 2048 := (i 1).isLt
  have h2 : (i 2).val < 1024 := (i 2).isLt
  have e : i = (ix3 ⟨(i 0).val, h0⟩ (at_ ⟨(i 1).val / 512, by omega⟩ ⟨(i 1).val % 512, by omega⟩) ⟨(i 2).val, h2⟩
      : S8x2048x1024.Idx) := by
    refine funext fun a => Fin.ext ?_
    match a with
    | ⟨0, _⟩ => rfl
    | ⟨1, _⟩ => show (i 1).val = (i 1).val / 512 * 512 + (i 1).val % 512; omega
    | ⟨2, _⟩ => rfl
  rw [e]
  exact h _ _ _ _

/-- The first result after the run is the reference's on the same arguments. -/
theorem first_final : (dats m 0 c).arrAt 14 cfg0.N = val_main_v39 (argX m c) (argR m c) (argH m c) (argU m c) (argGa m c) (argPost m c) (argWr m c) (argWh m c)
      (argWo m c) :=
  by_rows fun b q r k => first_final_apply m c b q r k

/-- The second result after the run is the reference's on the same arguments. -/
theorem second_final : (dats m 0 c).arrAt 15 cfg0.N = val_main_v59 (argX m c) (argR m c) (argH m c) (argU m c) (argGa m c) (argSc m c) (argSh m c) (argPost m c)
      (argPre m c) (argWr m c) (argWh m c) (argWo m c) :=
  by_rows fun b q r k => second_final_apply m c b q r k

/-- The reference runs to the end, keeps its arguments and, having no semaphore, leaves none off zero. -/
theorem reference_frame : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- The merge's launch and its reference end with equal results on the extended reals, and both keep their arguments. -/
theorem equal : Cert.algebraic_Kernel4Ideal_Reference4Ideal := by
  intro m g m' g' _ hm
  refine ⟨fun c => (dats m 0 c).arrAt 14 cfg0.N, fun c => (dats m 0 c).arrAt 15 cfg0.N,
    (θ_run _ _ _).mono (fun r h c => ⟨(h c).1, (h c).2.1, (h c).2.2.2⟩) (Cert.Kernel4Ideal.Value.run_blocks m g), ?_⟩
  refine (θ_run _ _ _).mono (fun r hr c => ⟨(hr c).1.trans ?_, (hr c).2.1.trans ?_, (hr c).2.2⟩)
    (Cert.Reference4Ideal.Value.run m' g')
  · refine (val_main_v39_eq m' c).trans (Eq.trans ?_ (first_final m c).symm)
    obtain ⟨e0, e1, e2, e3, e4, e5, e6, e7, e8, e9, e10, e11, -⟩ := hm c
    exact congr (congr (congr (congr (congr (congr (congr (congrArg₂ val_main_v39 e0 e1) e2) e3) e4) e7) e9) e10) e11
  · refine (val_main_v59_eq m' c).trans (Eq.trans ?_ (second_final m c).symm)
    obtain ⟨e0, e1, e2, e3, e4, e5, e6, e7, e8, e9, e10, e11, -⟩ := hm c
    exact congr (congr (congr (congr (congr (congr (congr (congr (congr (congr (congrArg₂ val_main_v59 e0 e1) e2) e3) e4) e5) e6)
      e7) e8) e9) e10) e11

end Cert.Mrg

end
-- ==== Proof.lean ====
/-
  The proof of the certificate's claim, assembled from the modules of each call.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Ret.Launch
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Inp.Launch
public import proofs.«01_k».proof.Proof.Gen.Kernel3
public import proofs.«01_k».proof.Proof.Gen.Kernel3Ideal
public import proofs.«01_k».proof.Proof.Gen.Reference3Ideal
public import proofs.«01_k».proof.Proof.Gen.On_routed
public import proofs.«01_k».proof.Proof.Exp.Ref
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Mrg.Launch
public import Idealize.ShloMosaic.Adequacy
public import Idealize.ShloMosaic.Init

@[expose] public section

noncomputable section

namespace Cert.Proof

open Idealize.ShloMosaic Idealize.SL.Sem Cert.Kernel

/-- The retention's program, its reading on the extended reals and its reference each run to the end and keep their
    arguments, and the last two end with equal results; the same of the input projection's, and of the experts' on the rows
    that some expert was given, and of the merge's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.On_routed.Gen.facts,
  fun m ρ _ => Cert.Kernel.Gen.frame m ρ, fun m ρ _ => Cert.KernelIdeal.Gen.frame m ρ, Cert.Ret.reference_frame,
  fun m ρ _ => Cert.Kernel2.Gen.frame m ρ, fun m ρ _ => Cert.Kernel2Ideal.Gen.frame m ρ, Cert.Inp.reference_frame,
  fun m ρ _ => Cert.Exp.frame_machine m ρ, fun m ρ _ => Cert.Exp.frame m ρ, Cert.Exp.reference_frame,
  fun m ρ _ => Cert.Kernel4.Gen.frame m ρ, fun m ρ _ => Cert.Kernel4Ideal.Gen.frame m ρ, Cert.Mrg.reference_frame,
  trivial, Cert.Ret.equal, Cert.Inp.keeps, Cert.Inp.equal, trivial, Cert.Exp.equal,
  trivial, Cert.Mrg.equal⟩

end Cert.Proof

end
